-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![1536, 24576]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![768, 1536]⟩ ⟨2, ![24576, 1536]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1536x768 : Shape := ⟨2, ![1536, 768]⟩
abbrev S768x1536 : Shape := ⟨2, ![768, 1536]⟩
abbrev S1536x1536 : Shape := ⟨2, ![1536, 1536]⟩
abbrev S7x3x32x1536 : Shape := ⟨4, ![7, 3, 32, 1536]⟩
abbrev S3x3x16x1536 : Shape := ⟨4, ![3, 3, 16, 1536]⟩
abbrev S7x3 : Shape := ⟨2, ![7, 3]⟩
abbrev S3x3 : Shape := ⟨2, ![3, 3]⟩
abbrev S_ : Shape := ⟨0, ![]⟩
abbrev S192x768 : Shape := ⟨2, ![192, 768]⟩
abbrev S192x1536 : Shape := ⟨2, ![192, 1536]⟩
abbrev S1x1 : Shape := ⟨2, ![1, 1]⟩
abbrev S1x1x32x1536 : Shape := ⟨4, ![1, 1, 32, 1536]⟩
abbrev S32x1536 : Shape := ⟨2, ![32, 1536]⟩
abbrev S1x1x16x1536 : Shape := ⟨4, ![1, 1, 16, 1536]⟩
abbrev S16x1536 : Shape := ⟨2, ![16, 1536]⟩

abbrev nBuf : Space → Nat
  | .hbm => 3
  | .vmem => 7
  | .smem => 0
  | _ => 0

abbrev bufTy : (tb : Table) → Fin (tcTables nBuf tb) → BufTy
  | .hbm, ⟨0, _⟩ => ⟨S1536x768, .bf16⟩
  | .hbm, ⟨1, _⟩ => ⟨S768x1536, .bf16⟩
  | .hbm, ⟨2, _⟩ => ⟨S1536x1536, .bf16⟩
  | .local _ .vmem, ⟨0, _⟩ => ⟨S1536x768, .bf16⟩
  | .local _ .vmem, ⟨1, _⟩ => ⟨S768x1536, .bf16⟩
  | .local _ .vmem, ⟨2, _⟩ => ⟨S1536x1536, .bf16⟩
  | .local _ .vmem, ⟨3, _⟩ => ⟨S1536x1536, .bf16⟩
  | .local _ .vmem, ⟨4, _⟩ => ⟨S7x3x32x1536, .bf16⟩
  | .local _ .vmem, ⟨5, _⟩ => ⟨S7x3x32x1536, .bf16⟩
  | .local _ .vmem, ⟨6, _⟩ => ⟨S3x3x16x1536, .bf16⟩
  | _, _ => ⟨S1536x768, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 207 → Bool
  | ⟨i, _⟩ => dmaSemScopedAt i

abbrev sig : RefSig :=
  (ofTc nBuf bufTy 1 207 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_26 : BitVec 32 := 1#32
  let v49 : BitVec 32 := Scalar.muli v38 c1_i32_26
  let v50 : BitVec 32 := Scalar.addi c0_i32_27 v49
  v50.toNat
def k0_dev2 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_29 : BitVec 32 := 1#32
  let v51 : BitVec 32 := Scalar.muli v30 c1_i32_29
  let v52 : BitVec 32 := Scalar.addi c0_i32_30 v51
  v52.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_21 : BitVec 32 := 4#32
  let v43 : BitVec 32 := Scalar.addi v19 c4_i32_21
  let c1_i32_22 : BitVec 32 := 1#32
  let v44 : BitVec 32 := Scalar.subi v43 c1_i32_22
  let c4_i32_23 : BitVec 32 := 4#32
  let v45 : BitVec 32 := Scalar.remsi v44 c4_i32_23
  let c8_i32_24 : BitVec 32 := 8#32
  let v46 : BitVec 32 := Scalar.muli v45 c8_i32_24
  let c8_i32_5 : BitVec 32 := 8#32
  let v20 : BitVec 32 := Scalar.remsi v2 c8_i32_5
  let v47 : BitVec 32 := Scalar.addi v46 v20
  let c1_i32_32 : BitVec 32 := 1#32
  let v53 : BitVec 32 := Scalar.muli v47 c1_i32_32
  let v54 : BitVec 32 := Scalar.addi c0_i32_33 v53
  v54.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_35 : BitVec 32 := 1#32
  let v55 : BitVec 32 := Scalar.muli v42 c1_i32_35
  let v56 : BitVec 32 := Scalar.addi c0_i32_36 v55
  v56.toNat
def k0_off1 (d0 : Dev nD) (c1_i32_41 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let v64 : BitVec 32 := Scalar.subi v23 c1_i32_41
  let c16_i32 : BitVec 32 := 16#32
  let v65 : BitVec 32 := Scalar.addi v64 c16_i32
  let c8_i32_42 : BitVec 32 := 8#32
  let v66 : BitVec 32 := Scalar.remsi v65 c8_i32_42
  let c192_i32 : BitVec 32 := 192#32
  let v67 : BitVec 32 := Scalar.muli v66 c192_i32
  let v68 : Index := Scalar.indexCast v67
  let c0_43 : Index := 0#32
  ![v68.toNat, 0]
def k0_off2 (d0 : Dev nD) (c1_i32_41 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let v64 : BitVec 32 := Scalar.subi v23 c1_i32_41
  let c16_i32 : BitVec 32 := 16#32
  let v65 : BitVec 32 := Scalar.addi v64 c16_i32
  let c8_i32_42 : BitVec 32 := 8#32
  let v66 : BitVec 32 := Scalar.remsi v65 c8_i32_42
  let c192_i32 : BitVec 32 := 192#32
  let v67 : BitVec 32 := Scalar.muli v66 c192_i32
  let v73 : Index := Scalar.indexCast v67
  let c0_44 : Index := 0#32
  ![v73.toNat, 0]
def k0_off3 (d0 : Dev nD) (c1_i32_45 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let v77 : BitVec 32 := Scalar.addi v23 c1_i32_45
  let c16_i32_46 : BitVec 32 := 16#32
  let v78 : BitVec 32 := Scalar.addi v77 c16_i32_46
  let c8_i32_47 : BitVec 32 := 8#32
  let v79 : BitVec 32 := Scalar.remsi v78 c8_i32_47
  let c192_i32_48 : BitVec 32 := 192#32
  let v80 : BitVec 32 := Scalar.muli v79 c192_i32_48
  let v81 : Index := Scalar.indexCast v80
  let c0_49 : Index := 0#32
  ![v81.toNat, 0]
def k0_off4 (d0 : Dev nD) (c1_i32_45 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let v77 : BitVec 32 := Scalar.addi v23 c1_i32_45
  let c16_i32_46 : BitVec 32 := 16#32
  let v78 : BitVec 32 := Scalar.addi v77 c16_i32_46
  let c8_i32_47 : BitVec 32 := 8#32
  let v79 : BitVec 32 := Scalar.remsi v78 c8_i32_47
  let c192_i32_48 : BitVec 32 := 192#32
  let v80 : BitVec 32 := Scalar.muli v79 c192_i32_48
  let v86 : Index := Scalar.indexCast v80
  let c0_51 : Index := 0#32
  ![v86.toNat, 0]
def k0_off5 (d0 : Dev nD) (c0_i32_61 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_53 : BitVec 32 := 8#32
  let v90 : BitVec 32 := Scalar.addi v23 c8_i32_53
  let c0_i32_54 : BitVec 32 := 0#32
  let v91 : BitVec 32 := Scalar.subi v90 c0_i32_54
  let c1_i32_55 : BitVec 32 := 1#32
  let v92 : BitVec 32 := Scalar.subi v91 c1_i32_55
  let c8_i32_56 : BitVec 32 := 8#32
  let v93 : BitVec 32 := Scalar.remsi v92 c8_i32_56
  let c192_i32_60 : BitVec 32 := 192#32
  let v97 : BitVec 32 := Scalar.muli v93 c192_i32_60
  let v98 : BitVec 32 := Scalar.addi v97 c0_i32_61
  let c0_i32_74 : BitVec 32 := 0#32
  ![v98.toNat, 0]
def k0_dev5 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_70 : BitVec 32 := 1#32
  let v102 : BitVec 32 := Scalar.muli v30 c1_i32_70
  let v103 : BitVec 32 := Scalar.addi c0_i32_71 v102
  v103.toNat
def k0_off6 (d0 : Dev nD) (c0_i32_63 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c0_i32_57 : BitVec 32 := 0#32
  let v94 : BitVec 32 := Scalar.addi v23 c0_i32_57
  let c1_i32_58 : BitVec 32 := 1#32
  let v95 : BitVec 32 := Scalar.addi v94 c1_i32_58
  let c8_i32_59 : BitVec 32 := 8#32
  let v96 : BitVec 32 := Scalar.remsi v95 c8_i32_59
  let c192_i32_62 : BitVec 32 := 192#32
  let v99 : BitVec 32 := Scalar.muli v96 c192_i32_62
  let c96_i32 : BitVec 32 := 96#32
  let v100 : BitVec 32 := Scalar.addi v99 c96_i32
  let v101 : BitVec 32 := Scalar.addi v100 c0_i32_63
  let c0_i32_85 : BitVec 32 := 0#32
  ![v101.toNat, 0]
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_81 : BitVec 32 := 1#32
  let v111 : BitVec 32 := Scalar.muli v38 c1_i32_81
  let v112 : BitVec 32 := Scalar.addi c0_i32_82 v111
  v112.toNat
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_97 : BitVec 32 := 1#32
  let v125 : BitVec 32 := Scalar.muli v30 c1_i32_97
  let v126 : BitVec 32 := Scalar.addi c0_i32_98 v125
  v126.toNat
def k0_dev8 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_108 : BitVec 32 := 1#32
  let v134 : BitVec 32 := Scalar.muli v38 c1_i32_108
  let v135 : BitVec 32 := Scalar.addi c0_i32_109 v134
  v135.toNat
def k0_dev9 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_123 : BitVec 32 := 1#32
  let v148 : BitVec 32 := Scalar.muli v30 c1_i32_123
  let v149 : BitVec 32 := Scalar.addi c0_i32_124 v148
  v149.toNat
def k0_dev10 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_134 : BitVec 32 := 1#32
  let v157 : BitVec 32 := Scalar.muli v38 c1_i32_134
  let v158 : BitVec 32 := Scalar.addi c0_i32_135 v157
  v158.toNat
def k0_off7 (d0 : Dev nD) (c1_i32_152 : BitVec 32) (c0_i32_159 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_151 : BitVec 32 := 8#32
  let v190 : BitVec 32 := Scalar.addi v23 c8_i32_151
  let v191 : BitVec 32 := Scalar.subi v190 c1_i32_152
  let c1_i32_153 : BitVec 32 := 1#32
  let v192 : BitVec 32 := Scalar.subi v191 c1_i32_153
  let c8_i32_154 : BitVec 32 := 8#32
  let v193 : BitVec 32 := Scalar.remsi v192 c8_i32_154
  let c192_i32_158 : BitVec 32 := 192#32
  let v197 : BitVec 32 := Scalar.muli v193 c192_i32_158
  let v198 : BitVec 32 := Scalar.addi v197 c0_i32_159
  let v211 : Index := Scalar.indexCast v198
  let c0_178 : Index := 0#32
  ![v211.toNat, 0]
def k0_dev11 (d0 : Dev nD) : Nat :=
  let c0_i32_192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_191 : BitVec 32 := 1#32
  let v217 : BitVec 32 := Scalar.muli v30 c1_i32_191
  let v218 : BitVec 32 := Scalar.addi c0_i32_192 v217
  v218.toNat
def k0_off8 (d0 : Dev nD) (c1_i32_155 : BitVec 32) (c0_i32_162 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let v194 : BitVec 32 := Scalar.addi v23 c1_i32_155
  let c1_i32_156 : BitVec 32 := 1#32
  let v195 : BitVec 32 := Scalar.addi v194 c1_i32_156
  let c8_i32_157 : BitVec 32 := 8#32
  let v196 : BitVec 32 := Scalar.remsi v195 c8_i32_157
  let c192_i32_160 : BitVec 32 := 192#32
  let v199 : BitVec 32 := Scalar.muli v196 c192_i32_160
  let c96_i32_161 : BitVec 32 := 96#32
  let v200 : BitVec 32 := Scalar.addi v199 c96_i32_161
  let v201 : BitVec 32 := Scalar.addi v200 c0_i32_162
  let v236 : Index := Scalar.indexCast v201
  let c0_212 : Index := 0#32
  ![v236.toNat, 0]
def k0_dev12 (d0 : Dev nD) : Nat :=
  let c0_i32_226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_225 : BitVec 32 := 1#32
  let v242 : BitVec 32 := Scalar.muli v38 c1_i32_225
  let v243 : BitVec 32 := Scalar.addi c0_i32_226 v242
  v243.toNat
def k0_dev13 (d0 : Dev nD) : Nat :=
  let c0_i32_264 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_263 : BitVec 32 := 1#32
  let v272 : BitVec 32 := Scalar.muli v30 c1_i32_263
  let v273 : BitVec 32 := Scalar.addi c0_i32_264 v272
  v273.toNat
def k0_dev14 (d0 : Dev nD) : Nat :=
  let c0_i32_298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_297 : BitVec 32 := 1#32
  let v297 : BitVec 32 := Scalar.muli v38 c1_i32_297
  let v298 : BitVec 32 := Scalar.addi c0_i32_298 v297
  v298.toNat
def k0_dev15 (d0 : Dev nD) : Nat :=
  let c0_i32_336 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_335 : BitVec 32 := 1#32
  let v327 : BitVec 32 := Scalar.muli v30 c1_i32_335
  let v328 : BitVec 32 := Scalar.addi c0_i32_336 v327
  v328.toNat
def k0_dev16 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_369 : BitVec 32 := 1#32
  let v352 : BitVec 32 := Scalar.muli v38 c1_i32_369
  let v353 : BitVec 32 := Scalar.addi c0_i32_370 v352
  v353.toNat
def k0_dev17 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_430 : BitVec 32 := 1#32
  let v414 : BitVec 32 := Scalar.muli v30 c1_i32_430
  let v415 : BitVec 32 := Scalar.addi c0_i32_431 v414
  v415.toNat
def k0_dev18 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_467 : BitVec 32 := 1#32
  let v440 : BitVec 32 := Scalar.muli v38 c1_i32_467
  let v441 : BitVec 32 := Scalar.addi c0_i32_468 v440
  v441.toNat
def k0_dev19 (d0 : Dev nD) : Nat :=
  let c0_i32_510 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_509 : BitVec 32 := 1#32
  let v471 : BitVec 32 := Scalar.muli v30 c1_i32_509
  let v472 : BitVec 32 := Scalar.addi c0_i32_510 v471
  v472.toNat
def k0_dev20 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_546 : BitVec 32 := 1#32
  let v497 : BitVec 32 := Scalar.muli v38 c1_i32_546
  let v498 : BitVec 32 := Scalar.addi c0_i32_547 v497
  v498.toNat
def k0_dev21 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_588 : BitVec 32 := 1#32
  let v528 : BitVec 32 := Scalar.muli v30 c1_i32_588
  let v529 : BitVec 32 := Scalar.addi c0_i32_589 v528
  v529.toNat
def k0_dev22 (d0 : Dev nD) : Nat :=
  let c0_i32_626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_625 : BitVec 32 := 1#32
  let v554 : BitVec 32 := Scalar.muli v38 c1_i32_625
  let v555 : BitVec 32 := Scalar.addi c0_i32_626 v554
  v555.toNat
def k0_dev23 (d0 : Dev nD) : Nat :=
  let c0_i32_681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_680 : BitVec 32 := 1#32
  let v604 : BitVec 32 := Scalar.muli v30 c1_i32_680
  let v605 : BitVec 32 := Scalar.addi c0_i32_681 v604
  v605.toNat
def k0_dev24 (d0 : Dev nD) : Nat :=
  let c0_i32_718 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_717 : BitVec 32 := 1#32
  let v630 : BitVec 32 := Scalar.muli v38 c1_i32_717
  let v631 : BitVec 32 := Scalar.addi c0_i32_718 v630
  v631.toNat
def k0_dev25 (d0 : Dev nD) : Nat :=
  let c0_i32_760 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_759 : BitVec 32 := 1#32
  let v661 : BitVec 32 := Scalar.muli v30 c1_i32_759
  let v662 : BitVec 32 := Scalar.addi c0_i32_760 v661
  v662.toNat
def k0_dev26 (d0 : Dev nD) : Nat :=
  let c0_i32_797 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_796 : BitVec 32 := 1#32
  let v687 : BitVec 32 := Scalar.muli v38 c1_i32_796
  let v688 : BitVec 32 := Scalar.addi c0_i32_797 v687
  v688.toNat
def k0_dev27 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_838 : BitVec 32 := 1#32
  let v718 : BitVec 32 := Scalar.muli v30 c1_i32_838
  let v719 : BitVec 32 := Scalar.addi c0_i32_839 v718
  v719.toNat
def k0_dev28 (d0 : Dev nD) : Nat :=
  let c0_i32_876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_875 : BitVec 32 := 1#32
  let v744 : BitVec 32 := Scalar.muli v38 c1_i32_875
  let v745 : BitVec 32 := Scalar.addi c0_i32_876 v744
  v745.toNat
def k0_off9 (d0 : Dev nD) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c16_i32_881 : BitVec 32 := 16#32
  let v754 : BitVec 32 := Scalar.addi v23 c16_i32_881
  let c8_i32_882 : BitVec 32 := 8#32
  let v755 : BitVec 32 := Scalar.remsi v754 c8_i32_882
  let c192_i32_883 : BitVec 32 := 192#32
  let v756 : BitVec 32 := Scalar.muli v755 c192_i32_883
  let v757 : Index := Scalar.indexCast v756
  let c0_884 : Index := 0#32
  ![v757.toNat, 0]
def k0_off10 (d0 : Dev nD) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c16_i32_881 : BitVec 32 := 16#32
  let v754 : BitVec 32 := Scalar.addi v23 c16_i32_881
  let c8_i32_882 : BitVec 32 := 8#32
  let v755 : BitVec 32 := Scalar.remsi v754 c8_i32_882
  let c192_i32_883 : BitVec 32 := 192#32
  let v756 : BitVec 32 := Scalar.muli v755 c192_i32_883
  let v762 : Index := Scalar.indexCast v756
  let c0_886 : Index := 0#32
  ![v762.toNat, 0]
def k0_dev29 (d0 : Dev nD) : Nat :=
  let c0_i32_930 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_929 : BitVec 32 := 1#32
  let v794 : BitVec 32 := Scalar.muli v30 c1_i32_929
  let v795 : BitVec 32 := Scalar.addi c0_i32_930 v794
  v795.toNat
def k0_dev30 (d0 : Dev nD) : Nat :=
  let c0_i32_967 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_966 : BitVec 32 := 1#32
  let v820 : BitVec 32 := Scalar.muli v38 c1_i32_966
  let v821 : BitVec 32 := Scalar.addi c0_i32_967 v820
  v821.toNat
def k0_dev31 (d0 : Dev nD) : Nat :=
  let c0_i32_1009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_1008 : BitVec 32 := 1#32
  let v851 : BitVec 32 := Scalar.muli v30 c1_i32_1008
  let v852 : BitVec 32 := Scalar.addi c0_i32_1009 v851
  v852.toNat
def k0_dev32 (d0 : Dev nD) : Nat :=
  let c0_i32_1046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_1045 : BitVec 32 := 1#32
  let v877 : BitVec 32 := Scalar.muli v38 c1_i32_1045
  let v878 : BitVec 32 := Scalar.addi c0_i32_1046 v877
  v878.toNat
def k0_dev33 (d0 : Dev nD) : Nat :=
  let c0_i32_1088 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_1087 : BitVec 32 := 1#32
  let v908 : BitVec 32 := Scalar.muli v30 c1_i32_1087
  let v909 : BitVec 32 := Scalar.addi c0_i32_1088 v908
  v909.toNat
def k0_dev34 (d0 : Dev nD) : Nat :=
  let c0_i32_1125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_1124 : BitVec 32 := 1#32
  let v934 : BitVec 32 := Scalar.muli v38 c1_i32_1124
  let v935 : BitVec 32 := Scalar.addi c0_i32_1125 v934
  v935.toNat
def k0_dev35 (d0 : Dev nD) : Nat :=
  let c0_i32_1172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_1171 : BitVec 32 := 1#32
  let v972 : BitVec 32 := Scalar.muli v30 c1_i32_1171
  let v973 : BitVec 32 := Scalar.addi c0_i32_1172 v972
  v973.toNat
def k0_dev36 (d0 : Dev nD) : Nat :=
  let c0_i32_1209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_1208 : BitVec 32 := 1#32
  let v998 : BitVec 32 := Scalar.muli v38 c1_i32_1208
  let v999 : BitVec 32 := Scalar.addi c0_i32_1209 v998
  v999.toNat
def k0_dev37 (d0 : Dev nD) : Nat :=
  let c0_i32_1251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_1250 : BitVec 32 := 1#32
  let v1029 : BitVec 32 := Scalar.muli v30 c1_i32_1250
  let v1030 : BitVec 32 := Scalar.addi c0_i32_1251 v1029
  v1030.toNat
def k0_dev38 (d0 : Dev nD) : Nat :=
  let c0_i32_1288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_1287 : BitVec 32 := 1#32
  let v1055 : BitVec 32 := Scalar.muli v38 c1_i32_1287
  let v1056 : BitVec 32 := Scalar.addi c0_i32_1288 v1055
  v1056.toNat
def k0_dev39 (d0 : Dev nD) : Nat :=
  let c0_i32_1330 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_1329 : BitVec 32 := 1#32
  let v1086 : BitVec 32 := Scalar.muli v30 c1_i32_1329
  let v1087 : BitVec 32 := Scalar.addi c0_i32_1330 v1086
  v1087.toNat
def k0_dev40 (d0 : Dev nD) : Nat :=
  let c0_i32_1367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_1366 : BitVec 32 := 1#32
  let v1112 : BitVec 32 := Scalar.muli v38 c1_i32_1366
  let v1113 : BitVec 32 := Scalar.addi c0_i32_1367 v1112
  v1113.toNat
def k0_dev41 (d0 : Dev nD) : Nat :=
  let c0_i32_1414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_1413 : BitVec 32 := 1#32
  let v1150 : BitVec 32 := Scalar.muli v30 c1_i32_1413
  let v1151 : BitVec 32 := Scalar.addi c0_i32_1414 v1150
  v1151.toNat
def k0_dev42 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_1450 : BitVec 32 := 1#32
  let v1176 : BitVec 32 := Scalar.muli v38 c1_i32_1450
  let v1177 : BitVec 32 := Scalar.addi c0_i32_1451 v1176
  v1177.toNat
def k0_dev43 (d0 : Dev nD) : Nat :=
  let c0_i32_1493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_1492 : BitVec 32 := 1#32
  let v1207 : BitVec 32 := Scalar.muli v30 c1_i32_1492
  let v1208 : BitVec 32 := Scalar.addi c0_i32_1493 v1207
  v1208.toNat
def k0_dev44 (d0 : Dev nD) : Nat :=
  let c0_i32_1530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_1529 : BitVec 32 := 1#32
  let v1233 : BitVec 32 := Scalar.muli v38 c1_i32_1529
  let v1234 : BitVec 32 := Scalar.addi c0_i32_1530 v1233
  v1234.toNat
def k0_dev45 (d0 : Dev nD) : Nat :=
  let c0_i32_1572 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_1571 : BitVec 32 := 1#32
  let v1264 : BitVec 32 := Scalar.muli v30 c1_i32_1571
  let v1265 : BitVec 32 := Scalar.addi c0_i32_1572 v1264
  v1265.toNat
def k0_dev46 (d0 : Dev nD) : Nat :=
  let c0_i32_1609 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_1608 : BitVec 32 := 1#32
  let v1290 : BitVec 32 := Scalar.muli v38 c1_i32_1608
  let v1291 : BitVec 32 := Scalar.addi c0_i32_1609 v1290
  v1291.toNat
def k0_off11 (d0 : Dev nD) (c0_i32_1643 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c192_i32_1642 : BitVec 32 := 192#32
  let v1316 : BitVec 32 := Scalar.muli v23 c192_i32_1642
  let v1317 : BitVec 32 := Scalar.addi v1316 c0_i32_1643
  let v1321 : Index := Scalar.indexCast v1317
  let c0_1647 : Index := 0#32
  ![v1321.toNat, 0]
def k0_off12 (d0 : Dev nD) (c0_i32_1646 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c192_i32_1644 : BitVec 32 := 192#32
  let v1318 : BitVec 32 := Scalar.muli v23 c192_i32_1644
  let c96_i32_1645 : BitVec 32 := 96#32
  let v1319 : BitVec 32 := Scalar.addi v1318 c96_i32_1645
  let v1320 : BitVec 32 := Scalar.addi v1319 c0_i32_1646
  let v1330 : Index := Scalar.indexCast v1320
  let c0_1652 : Index := 0#32
  ![v1330.toNat, 0]
def k0_off13 (d0 : Dev nD) (c0_i32_1753 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c192_i32_1748 : BitVec 32 := 192#32
  let v1417 : BitVec 32 := Scalar.muli v23 c192_i32_1748
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_1749 : BitVec 32 := 4#32
  let v1418 : BitVec 32 := Scalar.addi v19 c4_i32_1749
  let c0_i32_1750 : BitVec 32 := 0#32
  let v1419 : BitVec 32 := Scalar.subi v1418 c0_i32_1750
  let c1_i32_1751 : BitVec 32 := 1#32
  let v1420 : BitVec 32 := Scalar.subi v1419 c1_i32_1751
  let c4_i32_1752 : BitVec 32 := 4#32
  let v1421 : BitVec 32 := Scalar.remsi v1420 c4_i32_1752
  let c48_i32 : BitVec 32 := 48#32
  let v1422 : BitVec 32 := Scalar.muli v1421 c48_i32
  let v1423 : BitVec 32 := Scalar.addi v1417 v1422
  let v1424 : BitVec 32 := Scalar.addi v1423 c0_i32_1753
  let c0_i32_1764 : BitVec 32 := 0#32
  ![v1424.toNat, 0]
def k0_dev47 (d0 : Dev nD) : Nat :=
  let c0_i32_1761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_1760 : BitVec 32 := 1#32
  let v1425 : BitVec 32 := Scalar.muli v42 c1_i32_1760
  let v1426 : BitVec 32 := Scalar.addi c0_i32_1761 v1425
  v1426.toNat
def k0_dev48 (d0 : Dev nD) : Nat :=
  let c0_i32_1774 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_1773 : BitVec 32 := 1#32
  let v1437 : BitVec 32 := Scalar.muli v42 c1_i32_1773
  let v1438 : BitVec 32 := Scalar.addi c0_i32_1774 v1437
  v1438.toNat
def k0_dev49 (d0 : Dev nD) : Nat :=
  let c0_i32_1787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_1786 : BitVec 32 := 1#32
  let v1449 : BitVec 32 := Scalar.muli v42 c1_i32_1786
  let v1450 : BitVec 32 := Scalar.addi c0_i32_1787 v1449
  v1450.toNat
def k0_off14 (d0 : Dev nD) (c1_i32_1792 : BitVec 32) (c0_i32_1796 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c192_i32_1748 : BitVec 32 := 192#32
  let v1417 : BitVec 32 := Scalar.muli v23 c192_i32_1748
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_1791 : BitVec 32 := 4#32
  let v1458 : BitVec 32 := Scalar.addi v19 c4_i32_1791
  let v1459 : BitVec 32 := Scalar.subi v1458 c1_i32_1792
  let c1_i32_1793 : BitVec 32 := 1#32
  let v1460 : BitVec 32 := Scalar.subi v1459 c1_i32_1793
  let c4_i32_1794 : BitVec 32 := 4#32
  let v1461 : BitVec 32 := Scalar.remsi v1460 c4_i32_1794
  let c48_i32_1795 : BitVec 32 := 48#32
  let v1462 : BitVec 32 := Scalar.muli v1461 c48_i32_1795
  let v1463 : BitVec 32 := Scalar.addi v1417 v1462
  let v1464 : BitVec 32 := Scalar.addi v1463 c0_i32_1796
  let v1474 : Index := Scalar.indexCast v1464
  let c0_1812 : Index := 0#32
  ![v1474.toNat, 0]
def k0_dev50 (d0 : Dev nD) : Nat :=
  let c0_i32_1826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_1825 : BitVec 32 := 1#32
  let v1480 : BitVec 32 := Scalar.muli v42 c1_i32_1825
  let v1481 : BitVec 32 := Scalar.addi c0_i32_1826 v1480
  v1481.toNat
def k0_dev51 (d0 : Dev nD) : Nat :=
  let c0_i32_1862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_1861 : BitVec 32 := 1#32
  let v1508 : BitVec 32 := Scalar.muli v42 c1_i32_1861
  let v1509 : BitVec 32 := Scalar.addi c0_i32_1862 v1508
  v1509.toNat
def k0_dev52 (d0 : Dev nD) : Nat :=
  let c0_i32_1898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_1897 : BitVec 32 := 1#32
  let v1536 : BitVec 32 := Scalar.muli v42 c1_i32_1897
  let v1537 : BitVec 32 := Scalar.addi c0_i32_1898 v1536
  v1537.toNat
def k0_dev53 (d0 : Dev nD) : Nat :=
  let c0_i32_1941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_1940 : BitVec 32 := 1#32
  let v1569 : BitVec 32 := Scalar.muli v42 c1_i32_1940
  let v1570 : BitVec 32 := Scalar.addi c0_i32_1941 v1569
  v1570.toNat
def k0_dev54 (d0 : Dev nD) : Nat :=
  let c0_i32_1980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_1979 : BitVec 32 := 1#32
  let v1598 : BitVec 32 := Scalar.muli v42 c1_i32_1979
  let v1599 : BitVec 32 := Scalar.addi c0_i32_1980 v1598
  v1599.toNat
def k0_dev55 (d0 : Dev nD) : Nat :=
  let c0_i32_2019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_2018 : BitVec 32 := 1#32
  let v1627 : BitVec 32 := Scalar.muli v42 c1_i32_2018
  let v1628 : BitVec 32 := Scalar.addi c0_i32_2019 v1627
  v1628.toNat
def k0_off15 (d0 : Dev nD) (c0_i32_2039 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c192_i32_1748 : BitVec 32 := 192#32
  let v1417 : BitVec 32 := Scalar.muli v23 c192_i32_1748
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c48_i32_2038 : BitVec 32 := 48#32
  let v1645 : BitVec 32 := Scalar.muli v19 c48_i32_2038
  let v1646 : BitVec 32 := Scalar.addi v1417 v1645
  let v1647 : BitVec 32 := Scalar.addi v1646 c0_i32_2039
  let v1648 : Index := Scalar.indexCast v1647
  let c0_2040 : Index := 0#32
  ![v1648.toNat, 0]
def k0_off16 (d0 : Dev nD) (c0_i32_2039 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c192_i32_1748 : BitVec 32 := 192#32
  let v1417 : BitVec 32 := Scalar.muli v23 c192_i32_1748
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c48_i32_2038 : BitVec 32 := 48#32
  let v1645 : BitVec 32 := Scalar.muli v19 c48_i32_2038
  let v1646 : BitVec 32 := Scalar.addi v1417 v1645
  let v1647 : BitVec 32 := Scalar.addi v1646 c0_i32_2039
  let c0_i32_2056 : BitVec 32 := 0#32
  ![v1647.toNat, 0]
def k0_dev56 (d0 : Dev nD) : Nat :=
  let c0_i32_2055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_2054 : BitVec 32 := 1#32
  let v1671 : BitVec 32 := Scalar.muli v42 c1_i32_2054
  let v1672 : BitVec 32 := Scalar.addi c0_i32_2055 v1671
  v1672.toNat
def k0_dev57 (d0 : Dev nD) : Nat :=
  let c0_i32_2089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_2088 : BitVec 32 := 1#32
  let v1713 : BitVec 32 := Scalar.muli v42 c1_i32_2088
  let v1714 : BitVec 32 := Scalar.addi c0_i32_2089 v1713
  v1714.toNat
def k0_dev58 (d0 : Dev nD) : Nat :=
  let c0_i32_2123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_2122 : BitVec 32 := 1#32
  let v1755 : BitVec 32 := Scalar.muli v42 c1_i32_2122
  let v1756 : BitVec 32 := Scalar.addi c0_i32_2123 v1755
  v1756.toNat
def k0_off17 (d0 : Dev nD) (c1_i32_2127 : BitVec 32) (c0_i32_2130 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c192_i32_1748 : BitVec 32 := 192#32
  let v1417 : BitVec 32 := Scalar.muli v23 c192_i32_1748
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_2126 : BitVec 32 := 4#32
  let v1763 : BitVec 32 := Scalar.addi v19 c4_i32_2126
  let v1764 : BitVec 32 := Scalar.subi v1763 c1_i32_2127
  let c4_i32_2128 : BitVec 32 := 4#32
  let v1765 : BitVec 32 := Scalar.remsi v1764 c4_i32_2128
  let c48_i32_2129 : BitVec 32 := 48#32
  let v1766 : BitVec 32 := Scalar.muli v1765 c48_i32_2129
  let v1767 : BitVec 32 := Scalar.addi v1417 v1766
  let v1768 : BitVec 32 := Scalar.addi v1767 c0_i32_2130
  let c0_i32_2145 : BitVec 32 := 0#32
  ![v1768.toNat, 0]
def k0_dev59 (d0 : Dev nD) : Nat :=
  let c0_i32_2144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_2143 : BitVec 32 := 1#32
  let v1775 : BitVec 32 := Scalar.muli v42 c1_i32_2143
  let v1776 : BitVec 32 := Scalar.addi c0_i32_2144 v1775
  v1776.toNat
def k0_dev60 (d0 : Dev nD) : Nat :=
  let c0_i32_2162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_2161 : BitVec 32 := 1#32
  let v1792 : BitVec 32 := Scalar.muli v42 c1_i32_2161
  let v1793 : BitVec 32 := Scalar.addi c0_i32_2162 v1792
  v1793.toNat
def k0_dev61 (d0 : Dev nD) : Nat :=
  let c0_i32_2180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_2179 : BitVec 32 := 1#32
  let v1809 : BitVec 32 := Scalar.muli v42 c1_i32_2179
  let v1810 : BitVec 32 := Scalar.addi c0_i32_2180 v1809
  v1810.toNat
def k0_dev62 (d0 : Dev nD) : Nat :=
  let c0_i32_2201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_2200 : BitVec 32 := 1#32
  let v1829 : BitVec 32 := Scalar.muli v42 c1_i32_2200
  let v1830 : BitVec 32 := Scalar.addi c0_i32_2201 v1829
  v1830.toNat
def k0_dev63 (d0 : Dev nD) : Nat :=
  let c0_i32_2219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_2218 : BitVec 32 := 1#32
  let v1846 : BitVec 32 := Scalar.muli v42 c1_i32_2218
  let v1847 : BitVec 32 := Scalar.addi c0_i32_2219 v1846
  v1847.toNat
def k0_dev64 (d0 : Dev nD) : Nat :=
  let c0_i32_2237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_18 : BitVec 32 := 1#32
  let v39 : BitVec 32 := Scalar.addi v19 c1_i32_18
  let c4_i32_19 : BitVec 32 := 4#32
  let v40 : BitVec 32 := Scalar.remsi v39 c4_i32_19
  let c8_i32_20 : BitVec 32 := 8#32
  let v41 : BitVec 32 := Scalar.muli v40 c8_i32_20
  let c8_i32_5 : BitVec 32 := 8#32
  let v20 : BitVec 32 := Scalar.remsi v2 c8_i32_5
  let v42 : BitVec 32 := Scalar.addi v41 v20
  let c1_i32_2236 : BitVec 32 := 1#32
  let v1863 : BitVec 32 := Scalar.muli v42 c1_i32_2236
  let v1864 : BitVec 32 := Scalar.addi c0_i32_2237 v1863
  v1864.toNat
def k0_off18 (d0 : Dev nD) (c0_i32_2265 : BitVec 32) (c0_i32_2270 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_2264 : BitVec 32 := 8#32
  let v1889 : BitVec 32 := Scalar.addi v23 c8_i32_2264
  let v1890 : BitVec 32 := Scalar.subi v1889 c0_i32_2265
  let c8_i32_2266 : BitVec 32 := 8#32
  let v1891 : BitVec 32 := Scalar.remsi v1890 c8_i32_2266
  let c192_i32_2269 : BitVec 32 := 192#32
  let v1894 : BitVec 32 := Scalar.muli v1891 c192_i32_2269
  let v1895 : BitVec 32 := Scalar.addi v1894 c0_i32_2270
  let c0_i32_2280 : BitVec 32 := 0#32
  ![v1895.toNat, 0]
def k0_dev65 (d0 : Dev nD) : Nat :=
  let c0_i32_2279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2278 : BitVec 32 := 1#32
  let v1899 : BitVec 32 := Scalar.muli v30 c1_i32_2278
  let v1900 : BitVec 32 := Scalar.addi c0_i32_2279 v1899
  v1900.toNat
def k0_off19 (d0 : Dev nD) (c0_i32_2267 : BitVec 32) (c0_i32_2273 : BitVec 32) : Fin 2 → Nat :=
  let c1412854288_i32 : BitVec 32 := 1412854288#32
  let c4_i32 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let v1892 : BitVec 32 := Scalar.addi v23 c0_i32_2267
  let c8_i32_2268 : BitVec 32 := 8#32
  let v1893 : BitVec 32 := Scalar.remsi v1892 c8_i32_2268
  let c192_i32_2271 : BitVec 32 := 192#32
  let v1896 : BitVec 32 := Scalar.muli v1893 c192_i32_2271
  let c96_i32_2272 : BitVec 32 := 96#32
  let v1897 : BitVec 32 := Scalar.addi v1896 c96_i32_2272
  let v1898 : BitVec 32 := Scalar.addi v1897 c0_i32_2273
  let c0_i32_2288 : BitVec 32 := 0#32
  ![v1898.toNat, 0]
def k0_dev66 (d0 : Dev nD) : Nat :=
  let c0_i32_2287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2286 : BitVec 32 := 1#32
  let v1907 : BitVec 32 := Scalar.muli v38 c1_i32_2286
  let v1908 : BitVec 32 := Scalar.addi c0_i32_2287 v1907
  v1908.toNat
def k0_dev67 (d0 : Dev nD) : Nat :=
  let c0_i32_2300 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2299 : BitVec 32 := 1#32
  let v1920 : BitVec 32 := Scalar.muli v30 c1_i32_2299
  let v1921 : BitVec 32 := Scalar.addi c0_i32_2300 v1920
  v1921.toNat
def k0_dev68 (d0 : Dev nD) : Nat :=
  let c0_i32_2308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2307 : BitVec 32 := 1#32
  let v1928 : BitVec 32 := Scalar.muli v38 c1_i32_2307
  let v1929 : BitVec 32 := Scalar.addi c0_i32_2308 v1928
  v1929.toNat
def k0_dev69 (d0 : Dev nD) : Nat :=
  let c0_i32_2321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2320 : BitVec 32 := 1#32
  let v1941 : BitVec 32 := Scalar.muli v30 c1_i32_2320
  let v1942 : BitVec 32 := Scalar.addi c0_i32_2321 v1941
  v1942.toNat
def k0_dev70 (d0 : Dev nD) : Nat :=
  let c0_i32_2329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2328 : BitVec 32 := 1#32
  let v1949 : BitVec 32 := Scalar.muli v38 c1_i32_2328
  let v1950 : BitVec 32 := Scalar.addi c0_i32_2329 v1949
  v1950.toNat
def k0_dev71 (d0 : Dev nD) : Nat :=
  let c0_i32_2363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2362 : BitVec 32 := 1#32
  let v1979 : BitVec 32 := Scalar.muli v30 c1_i32_2362
  let v1980 : BitVec 32 := Scalar.addi c0_i32_2363 v1979
  v1980.toNat
def k0_dev72 (d0 : Dev nD) : Nat :=
  let c0_i32_2371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2370 : BitVec 32 := 1#32
  let v1987 : BitVec 32 := Scalar.muli v38 c1_i32_2370
  let v1988 : BitVec 32 := Scalar.addi c0_i32_2371 v1987
  v1988.toNat
def k0_dev73 (d0 : Dev nD) : Nat :=
  let c0_i32_2400 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2399 : BitVec 32 := 1#32
  let v2012 : BitVec 32 := Scalar.muli v30 c1_i32_2399
  let v2013 : BitVec 32 := Scalar.addi c0_i32_2400 v2012
  v2013.toNat
def k0_dev74 (d0 : Dev nD) : Nat :=
  let c0_i32_2408 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2407 : BitVec 32 := 1#32
  let v2020 : BitVec 32 := Scalar.muli v38 c1_i32_2407
  let v2021 : BitVec 32 := Scalar.addi c0_i32_2408 v2020
  v2021.toNat
def k0_dev75 (d0 : Dev nD) : Nat :=
  let c0_i32_2437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2436 : BitVec 32 := 1#32
  let v2045 : BitVec 32 := Scalar.muli v30 c1_i32_2436
  let v2046 : BitVec 32 := Scalar.addi c0_i32_2437 v2045
  v2046.toNat
def k0_dev76 (d0 : Dev nD) : Nat :=
  let c0_i32_2445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2444 : BitVec 32 := 1#32
  let v2053 : BitVec 32 := Scalar.muli v38 c1_i32_2444
  let v2054 : BitVec 32 := Scalar.addi c0_i32_2445 v2053
  v2054.toNat
def k0_dev77 (d0 : Dev nD) : Nat :=
  let c0_i32_2479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2478 : BitVec 32 := 1#32
  let v2083 : BitVec 32 := Scalar.muli v30 c1_i32_2478
  let v2084 : BitVec 32 := Scalar.addi c0_i32_2479 v2083
  v2084.toNat
def k0_dev78 (d0 : Dev nD) : Nat :=
  let c0_i32_2487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2486 : BitVec 32 := 1#32
  let v2091 : BitVec 32 := Scalar.muli v38 c1_i32_2486
  let v2092 : BitVec 32 := Scalar.addi c0_i32_2487 v2091
  v2092.toNat
def k0_dev79 (d0 : Dev nD) : Nat :=
  let c0_i32_2516 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2515 : BitVec 32 := 1#32
  let v2116 : BitVec 32 := Scalar.muli v30 c1_i32_2515
  let v2117 : BitVec 32 := Scalar.addi c0_i32_2516 v2116
  v2117.toNat
def k0_dev80 (d0 : Dev nD) : Nat :=
  let c0_i32_2524 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2523 : BitVec 32 := 1#32
  let v2124 : BitVec 32 := Scalar.muli v38 c1_i32_2523
  let v2125 : BitVec 32 := Scalar.addi c0_i32_2524 v2124
  v2125.toNat
def k0_dev81 (d0 : Dev nD) : Nat :=
  let c0_i32_2553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2552 : BitVec 32 := 1#32
  let v2149 : BitVec 32 := Scalar.muli v30 c1_i32_2552
  let v2150 : BitVec 32 := Scalar.addi c0_i32_2553 v2149
  v2150.toNat
def k0_dev82 (d0 : Dev nD) : Nat :=
  let c0_i32_2561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2560 : BitVec 32 := 1#32
  let v2157 : BitVec 32 := Scalar.muli v38 c1_i32_2560
  let v2158 : BitVec 32 := Scalar.addi c0_i32_2561 v2157
  v2158.toNat
def k0_dev83 (d0 : Dev nD) : Nat :=
  let c0_i32_2595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2594 : BitVec 32 := 1#32
  let v2187 : BitVec 32 := Scalar.muli v30 c1_i32_2594
  let v2188 : BitVec 32 := Scalar.addi c0_i32_2595 v2187
  v2188.toNat
def k0_dev84 (d0 : Dev nD) : Nat :=
  let c0_i32_2603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2602 : BitVec 32 := 1#32
  let v2195 : BitVec 32 := Scalar.muli v38 c1_i32_2602
  let v2196 : BitVec 32 := Scalar.addi c0_i32_2603 v2195
  v2196.toNat
def k0_dev85 (d0 : Dev nD) : Nat :=
  let c0_i32_2632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2631 : BitVec 32 := 1#32
  let v2220 : BitVec 32 := Scalar.muli v30 c1_i32_2631
  let v2221 : BitVec 32 := Scalar.addi c0_i32_2632 v2220
  v2221.toNat
def k0_dev86 (d0 : Dev nD) : Nat :=
  let c0_i32_2640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2639 : BitVec 32 := 1#32
  let v2228 : BitVec 32 := Scalar.muli v38 c1_i32_2639
  let v2229 : BitVec 32 := Scalar.addi c0_i32_2640 v2228
  v2229.toNat
def k0_dev87 (d0 : Dev nD) : Nat :=
  let c0_i32_2669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2668 : BitVec 32 := 1#32
  let v2253 : BitVec 32 := Scalar.muli v30 c1_i32_2668
  let v2254 : BitVec 32 := Scalar.addi c0_i32_2669 v2253
  v2254.toNat
def k0_dev88 (d0 : Dev nD) : Nat :=
  let c0_i32_2677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2676 : BitVec 32 := 1#32
  let v2261 : BitVec 32 := Scalar.muli v38 c1_i32_2676
  let v2262 : BitVec 32 := Scalar.addi c0_i32_2677 v2261
  v2262.toNat
def k0_dev89 (d0 : Dev nD) : Nat :=
  let c0_i32_2711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2710 : BitVec 32 := 1#32
  let v2291 : BitVec 32 := Scalar.muli v30 c1_i32_2710
  let v2292 : BitVec 32 := Scalar.addi c0_i32_2711 v2291
  v2292.toNat
def k0_dev90 (d0 : Dev nD) : Nat :=
  let c0_i32_2719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2718 : BitVec 32 := 1#32
  let v2299 : BitVec 32 := Scalar.muli v38 c1_i32_2718
  let v2300 : BitVec 32 := Scalar.addi c0_i32_2719 v2299
  v2300.toNat
def k0_dev91 (d0 : Dev nD) : Nat :=
  let c0_i32_2748 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2747 : BitVec 32 := 1#32
  let v2324 : BitVec 32 := Scalar.muli v30 c1_i32_2747
  let v2325 : BitVec 32 := Scalar.addi c0_i32_2748 v2324
  v2325.toNat
def k0_dev92 (d0 : Dev nD) : Nat :=
  let c0_i32_2756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2755 : BitVec 32 := 1#32
  let v2332 : BitVec 32 := Scalar.muli v38 c1_i32_2755
  let v2333 : BitVec 32 := Scalar.addi c0_i32_2756 v2332
  v2333.toNat
def k0_dev93 (d0 : Dev nD) : Nat :=
  let c0_i32_2785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2784 : BitVec 32 := 1#32
  let v2357 : BitVec 32 := Scalar.muli v30 c1_i32_2784
  let v2358 : BitVec 32 := Scalar.addi c0_i32_2785 v2357
  v2358.toNat
def k0_dev94 (d0 : Dev nD) : Nat :=
  let c0_i32_2793 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2792 : BitVec 32 := 1#32
  let v2365 : BitVec 32 := Scalar.muli v38 c1_i32_2792
  let v2366 : BitVec 32 := Scalar.addi c0_i32_2793 v2365
  v2366.toNat
def k0_dev95 (d0 : Dev nD) : Nat :=
  let c0_i32_2827 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2826 : BitVec 32 := 1#32
  let v2395 : BitVec 32 := Scalar.muli v30 c1_i32_2826
  let v2396 : BitVec 32 := Scalar.addi c0_i32_2827 v2395
  v2396.toNat
def k0_dev96 (d0 : Dev nD) : Nat :=
  let c0_i32_2835 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2834 : BitVec 32 := 1#32
  let v2403 : BitVec 32 := Scalar.muli v38 c1_i32_2834
  let v2404 : BitVec 32 := Scalar.addi c0_i32_2835 v2403
  v2404.toNat
def k0_dev97 (d0 : Dev nD) : Nat :=
  let c0_i32_2864 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2863 : BitVec 32 := 1#32
  let v2428 : BitVec 32 := Scalar.muli v30 c1_i32_2863
  let v2429 : BitVec 32 := Scalar.addi c0_i32_2864 v2428
  v2429.toNat
def k0_dev98 (d0 : Dev nD) : Nat :=
  let c0_i32_2872 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2871 : BitVec 32 := 1#32
  let v2436 : BitVec 32 := Scalar.muli v38 c1_i32_2871
  let v2437 : BitVec 32 := Scalar.addi c0_i32_2872 v2436
  v2437.toNat
def k0_dev99 (d0 : Dev nD) : Nat :=
  let c0_i32_2901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2900 : BitVec 32 := 1#32
  let v2461 : BitVec 32 := Scalar.muli v30 c1_i32_2900
  let v2462 : BitVec 32 := Scalar.addi c0_i32_2901 v2461
  v2462.toNat
def k0_dev100 (d0 : Dev nD) : Nat :=
  let c0_i32_2909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2908 : BitVec 32 := 1#32
  let v2469 : BitVec 32 := Scalar.muli v38 c1_i32_2908
  let v2470 : BitVec 32 := Scalar.addi c0_i32_2909 v2469
  v2470.toNat
def k0_dev101 (d0 : Dev nD) : Nat :=
  let c0_i32_2943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2942 : BitVec 32 := 1#32
  let v2499 : BitVec 32 := Scalar.muli v30 c1_i32_2942
  let v2500 : BitVec 32 := Scalar.addi c0_i32_2943 v2499
  v2500.toNat
def k0_dev102 (d0 : Dev nD) : Nat :=
  let c0_i32_2951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2950 : BitVec 32 := 1#32
  let v2507 : BitVec 32 := Scalar.muli v38 c1_i32_2950
  let v2508 : BitVec 32 := Scalar.addi c0_i32_2951 v2507
  v2508.toNat
def k0_dev103 (d0 : Dev nD) : Nat :=
  let c0_i32_2980 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_2979 : BitVec 32 := 1#32
  let v2532 : BitVec 32 := Scalar.muli v30 c1_i32_2979
  let v2533 : BitVec 32 := Scalar.addi c0_i32_2980 v2532
  v2533.toNat
def k0_dev104 (d0 : Dev nD) : Nat :=
  let c0_i32_2988 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_2987 : BitVec 32 := 1#32
  let v2540 : BitVec 32 := Scalar.muli v38 c1_i32_2987
  let v2541 : BitVec 32 := Scalar.addi c0_i32_2988 v2540
  v2541.toNat
def k0_dev105 (d0 : Dev nD) : Nat :=
  let c0_i32_3017 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_6 : BitVec 32 := 8#32
  let v24 : BitVec 32 := Scalar.muli v19 c8_i32_6
  let c880169488_i32 : BitVec 32 := 880169488#32
  let c4_i32_9 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c1_i32_7 : BitVec 32 := 1#32
  let v25 : BitVec 32 := Scalar.addi v23 c1_i32_7
  let c8_i32_8 : BitVec 32 := 8#32
  let v26 : BitVec 32 := Scalar.remsi v25 c8_i32_8
  let v27 : BitVec 32 := Scalar.muli c4_i32_9 v26
  let v28 : BitVec 32 := Scalar.shrui c880169488_i32 v27
  let c15_i32_10 : BitVec 32 := 15#32
  let v29 : BitVec 32 := Scalar.andi v28 c15_i32_10
  let v30 : BitVec 32 := Scalar.addi v24 v29
  let c1_i32_3016 : BitVec 32 := 1#32
  let v2565 : BitVec 32 := Scalar.muli v30 c1_i32_3016
  let v2566 : BitVec 32 := Scalar.addi c0_i32_3017 v2565
  v2566.toNat
def k0_dev106 (d0 : Dev nD) : Nat :=
  let c0_i32_3025 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_11 : BitVec 32 := 8#32
  let v31 : BitVec 32 := Scalar.muli v19 c8_i32_11
  let c880169488_i32_16 : BitVec 32 := 880169488#32
  let c4_i32_15 : BitVec 32 := 4#32
  let c1412854288_i32 : BitVec 32 := 1412854288#32
  let c4_i32 : BitVec 32 := 4#32
  let c8_i32_5 : BitVec 32 := 8#32
  let v20 : BitVec 32 := Scalar.remsi v2 c8_i32_5
  let v21 : BitVec 32 := Scalar.muli c4_i32 v20
  let v22 : BitVec 32 := Scalar.shrui c1412854288_i32 v21
  let c15_i32 : BitVec 32 := 15#32
  let v23 : BitVec 32 := Scalar.andi v22 c15_i32
  let c8_i32_12 : BitVec 32 := 8#32
  let v32 : BitVec 32 := Scalar.addi v23 c8_i32_12
  let c1_i32_13 : BitVec 32 := 1#32
  let v33 : BitVec 32 := Scalar.subi v32 c1_i32_13
  let c8_i32_14 : BitVec 32 := 8#32
  let v34 : BitVec 32 := Scalar.remsi v33 c8_i32_14
  let v35 : BitVec 32 := Scalar.muli c4_i32_15 v34
  let v36 : BitVec 32 := Scalar.shrui c880169488_i32_16 v35
  let c15_i32_17 : BitVec 32 := 15#32
  let v37 : BitVec 32 := Scalar.andi v36 c15_i32_17
  let v38 : BitVec 32 := Scalar.addi v31 v37
  let c1_i32_3024 : BitVec 32 := 1#32
  let v2573 : BitVec 32 := Scalar.muli v38 c1_i32_3024
  let v2574 : BitVec 32 := Scalar.addi c0_i32_3025 v2573
  v2574.toNat
abbrev stage0_0 : Fin 1 → Memref sig .tc .vmem S1536x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1536x24576 : Shape := ⟨2, ![1536, 24576]⟩
abbrev S24576x1536 : Shape := ⟨2, ![24576, 1536]⟩
abbrev S1536x1536 : Shape := ⟨2, ![1536, 1536]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S1536x24576, .bf16⟩
  | .hbm, ⟨1, _⟩ => ⟨S24576x1536, .bf16⟩
  | .hbm, ⟨2, _⟩ => ⟨S1536x24576, .f32⟩
  | .hbm, ⟨3, _⟩ => ⟨S24576x1536, .f32⟩
  | .hbm, ⟨4, _⟩ => ⟨S1536x1536, .f32⟩
  | .hbm, ⟨5, _⟩ => ⟨S_, .f32⟩
  | .hbm, ⟨6, _⟩ => ⟨S1536x1536, .f32⟩
  | .hbm, ⟨7, _⟩ => ⟨S1536x1536, .f32⟩
  | .hbm, ⟨8, _⟩ => ⟨S_, .f32⟩
  | .hbm, ⟨9, _⟩ => ⟨S1536x1536, .f32⟩
  | .hbm, ⟨10, _⟩ => ⟨S1536x1536, .f32⟩
  | .hbm, ⟨11, _⟩ => ⟨S1536x1536, .f32⟩
  | .hbm, ⟨12, _⟩ => ⟨S1536x1536, .f32⟩
  | .hbm, ⟨13, _⟩ => ⟨S1536x1536, .f32⟩
  | .hbm, ⟨14, _⟩ => ⟨S_, .f32⟩
  | .hbm, ⟨15, _⟩ => ⟨S1536x1536, .f32⟩
  | .hbm, ⟨16, _⟩ => ⟨S1536x1536, .f32⟩
  | .hbm, ⟨17, _⟩ => ⟨S1536x1536, .f32⟩
  | .hbm, ⟨18, _⟩ => ⟨S_, .f32⟩
  | .hbm, ⟨19, _⟩ => ⟨S1536x1536, .f32⟩
  | .hbm, ⟨20, _⟩ => ⟨S1536x1536, .f32⟩
  | .hbm, ⟨21, _⟩ => ⟨S1536x1536, .f32⟩
  | .hbm, ⟨22, _⟩ => ⟨S1536x1536, .bf16⟩
  | _, _ => ⟨S1536x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Machine.lean ====
/- The kernel's body as a list of instructions: signals, products of one slab, remote copies, waits
   for copies, accumulations, the activation — each generic in its hop and chunk — and the theorem that
   running the list in order is the printed body. -/
module

public import proofs.«01_k».proof.Proof.Gen.KernelIdeal.Skeleton
public import Idealize.ShloMosaic.Lib.Pipeline.Regions

@[expose] public section

noncomputable section

namespace Cert.KernelIdeal.Machine

open Idealize.ShloMosaic Idealize.SL.Sem
open Cert.KernelIdeal.Gen

variable {F : FTy → Type} [FloatOps F]

/-! ## The copies -/

/-- The remote copies. `rs1 b h u`: hop `h` of the first reduce-scatter, chunk `u`, clockwise (`b = false`)
    or counter-clockwise; `rs2 h t`: hop `h` of the second reduce-scatter; `ag2 h t` and `ag1 b h u`: the two
    all-gathers. -/
inductive Cp
  | rs1 (b : Bool) (h : Fin 7) (u : Fin 3)
  | rs2 (h t : Fin 3)
  | ag2 (h t : Fin 3)
  | ag1 (b : Bool) (h : Fin 7) (u : Fin 3)
  deriving DecidableEq

open Cp

abbrev aM : Memref sig .tc .vmem S1536x768 .bf16 := win0_0.stage 0
abbrev bM : Memref sig .tc .vmem S768x1536 .bf16 := win0_1.stage 0
abbrev oM : Memref sig .tc .vmem S1536x1536 .bf16 := win0_2.stage 0
abbrev pM : Memref sig .tc .vmem S1536x1536 .bf16 := Memref.whole cc0_scratch0
/-- The landing buffer of the first reduce-scatter, per direction. -/
abbrev rM : Bool → Memref sig .tc .vmem S7x3x32x1536 .bf16
  | false => Memref.whole cc0_scratch1
  | true => Memref.whole cc0_scratch2
abbrev r2M : Memref sig .tc .vmem S3x3x16x1536 .bf16 := Memref.whole cc0_scratch3

theorem haM : aM.IsWhole := hstage0_0 0
theorem hoM : oM.IsWhole := hstage0_2 0
theorem hpM : pM.IsWhole := Memref.isWhole_whole _
theorem hrM : ∀ b, (rM b).IsWhole
  | false => Memref.isWhole_whole _
  | true => Memref.isWhole_whole _
theorem hr2M : r2M.IsWhole := Memref.isWhole_whole _

/-! ## Rectangles -/

theorem inb1 (h : Fin 7) (u : Fin 3) : ∀ a, (![h.val, u.val, 0, 0] : Fin 4 → Nat) a + S1x1x32x1536.size a ≤ S7x3x32x1536.size a := by
  revert h u; decide
theorem inb2 (h : Fin 3) (u : Fin 3) : ∀ a, (![h.val, u.val, 0, 0] : Fin 4 → Nat) a + S1x1x16x1536.size a ≤ S3x3x16x1536.size a := by
  revert h u; decide
theorem inbS1 (h : Fin 7) (u : Fin 3) : ∀ a, (![h.val, u.val] : Fin 2 → Nat) a + S1x1.size a ≤ S7x3.size a := by
  revert h u; decide
theorem inbS2 (h : Fin 3) (u : Fin 3) : ∀ a, (![h.val, u.val] : Fin 2 → Nat) a + S1x1.size a ≤ S3x3.size a := by
  revert h u; decide

/-- Chunk `(h, u)` of a landing buffer, of the first and of the second reduce-scatter. -/
abbrev rect1 (h : Fin 7) (u : Fin 3) : Rect S7x3x32x1536 := Rect.unit (s := S7x3x32x1536) ![h.val, u.val, 0, 0] S1x1x32x1536.size (inb1 h u)
abbrev rect2 (h : Fin 3) (u : Fin 3) : Rect S3x3x16x1536 := Rect.unit (s := S3x3x16x1536) ![h.val, u.val, 0, 0] S1x1x16x1536.size (inb2 h u)

theorem words1 (h : Fin 7) (u : Fin 3) : (rect1 h u).WholeWords (EltTy.packing .bf16) := by revert h u; decide
theorem words2 (h : Fin 3) (u : Fin 3) : (rect2 h u).WholeWords (EltTy.packing .bf16) := by revert h u; decide
theorem packed1 (h : Fin 7) (u : Fin 3) : (rect1 h u).PackedRows (EltTy.packing .bf16) := by revert h u; decide
theorem packed2 (h : Fin 3) (u : Fin 3) : (rect2 h u).PackedRows (EltTy.packing .bf16) := by revert h u; decide

/-- Chunk `(h, u)` of the landing buffer of direction `b`, as the `32 × 1536` operand of a copy. -/
abbrev rC (b : Bool) (h : Fin 7) (u : Fin 3) : Memref sig .tc .vmem S32x1536 .bf16 :=
  ((rM b).slice (rect1 h u) (fun _ => rfl)).squeeze S32x1536 squeezes_S1x1x32x1536_S32x1536
/-- Chunk `(h, t)` of the second reduce-scatter's landing buffer. -/
abbrev r2C (h t : Fin 3) : Memref sig .tc .vmem S16x1536 .bf16 :=
  (r2M.slice (rect2 h t) (fun _ => rfl)).squeeze S16x1536 squeezes_S1x1x16x1536_S16x1536

theorem rC_exact (b : Bool) (h : Fin 7) (u : Fin 3) : (rC b h u).view.WordExact :=
  match b with
  | false => ((hrM false).wordExact_slice rfl _ (words1 h u)).reshape _ _
  | true => ((hrM true).wordExact_slice rfl _ (words1 h u)).reshape _ _
theorem r2C_exact (h t : Fin 3) : (r2C h t).view.WordExact := (hr2M.wordExact_slice rfl _ (words2 h t)).reshape _ _

abbrev w32 (u : Fin 3) : BitVec 32 := BitVec.ofNat 32 (32 * u.val)
abbrev w16 (t : Fin 3) : BitVec 32 := BitVec.ofNat 32 (16 * t.val)

/-- The rows of the partial product that the clockwise and the counter-clockwise ring start with. -/
abbrev p5 (d0 : Dev nD) : Bool → Fin 3 → Memref sig .tc .vmem S32x1536 .bf16
  | false, u => pM.slice (Rect.unit (s := S1536x1536) (k0_off5 d0 (w32 u)) S32x1536.size (k0_off5_inb d0 u)) (fun _ => rfl)
  | true, u => pM.slice (Rect.unit (s := S1536x1536) (k0_off6 d0 (w32 u)) S32x1536.size (k0_off6_inb d0 u)) (fun _ => rfl)
theorem p5_exact (d0 : Dev nD) : ∀ b u, (p5 d0 b u).view.WordExact
  | false, u => hpM.wordExact_slice rfl _ (k0_off5_wordsbf16 d0 u)
  | true, u => hpM.wordExact_slice rfl _ (k0_off6_wordsbf16 d0 u)
/-- The rows the second reduce-scatter starts with. -/
abbrev p13 (d0 : Dev nD) (t : Fin 3) : Memref sig .tc .vmem S16x1536 .bf16 :=
  pM.slice (Rect.unit (s := S1536x1536) (k0_off13 d0 (w16 t)) S16x1536.size (k0_off13_inb d0 t)) (fun _ => rfl)
/-- The rows of the result that hop `h` of the second all-gather copies. -/
abbrev o2 (d0 : Dev nD) : Fin 3 → Fin 3 → Memref sig .tc .vmem S16x1536 .bf16
  | ⟨0, _⟩, t => oM.slice (Rect.unit (s := S1536x1536) (k0_off16 d0 (w16 t)) S16x1536.size (k0_off16_inb d0 t)) (fun _ => rfl)
  | ⟨h + 1, hh⟩, t => oM.slice (Rect.unit (s := S1536x1536) (k0_off17 d0 (BitVec.ofNat 32 (1 + h)) (w16 t)) S16x1536.size
      (k0_off17_inb d0 ⟨h, Nat.lt_of_succ_lt_succ hh⟩ t)) (fun _ => rfl)
theorem o2_exact (d0 : Dev nD) : ∀ h t, (o2 d0 h t).view.WordExact
  | ⟨0, _⟩, t => hoM.wordExact_slice rfl _ (k0_off16_wordsbf16 d0 t)
  | ⟨h + 1, hh⟩, t => hoM.wordExact_slice rfl _ (k0_off17_wordsbf16 d0 ⟨h, Nat.lt_of_succ_lt_succ hh⟩ t)
/-- The rows of the result that hop `h` of the first all-gather copies, per direction. -/
abbrev o1 (d0 : Dev nD) : Bool → Fin 7 → Fin 3 → Memref sig .tc .vmem S32x1536 .bf16
  | false, h, u => oM.slice (Rect.unit (s := S1536x1536) (k0_off18 d0 (BitVec.ofNat 32 h.val) (w32 u)) S32x1536.size (k0_off18_inb d0 h u)) (fun _ => rfl)
  | true, h, u => oM.slice (Rect.unit (s := S1536x1536) (k0_off19 d0 (BitVec.ofNat 32 h.val) (w32 u)) S32x1536.size (k0_off19_inb d0 h u)) (fun _ => rfl)
theorem o1_exact (d0 : Dev nD) : ∀ b h u, (o1 d0 b h u).view.WordExact
  | false, h, u => hoM.wordExact_slice rfl _ (k0_off18_wordsbf16 d0 h u)
  | true, h, u => hoM.wordExact_slice rfl _ (k0_off19_wordsbf16 d0 h u)

/-! ## A copy's operands -/

/-- The shape a copy moves. -/
abbrev shp : Cp → Shape
  | rs1 _ _ _ => S32x1536
  | rs2 _ _ => S16x1536
  | ag2 _ _ => S16x1536
  | ag1 _ _ _ => S32x1536

abbrev srcM (d0 : Dev nD) : (i : Cp) → Memref sig .tc .vmem (shp i) .bf16
  | rs1 b ⟨0, _⟩ u => p5 d0 b u
  | rs1 b ⟨h + 1, hh⟩ u => rC b ⟨h, Nat.lt_of_succ_lt hh⟩ u
  | rs2 ⟨0, _⟩ t => p13 d0 t
  | rs2 ⟨h + 1, hh⟩ t => r2C ⟨h, Nat.lt_of_succ_lt hh⟩ t
  | ag2 h t => o2 d0 h t
  | ag1 b h u => o1 d0 b h u

abbrev dstM (d0 : Dev nD) : (i : Cp) → Memref sig .tc .vmem (shp i) .bf16
  | rs1 b h u => rC b h u
  | rs2 h t => r2C h t
  | ag2 h t => o2 d0 h t
  | ag1 b h u => o1 d0 b h u

theorem src_exact (d0 : Dev nD) : ∀ i, (srcM d0 i).view.WordExact
  | rs1 b ⟨0, _⟩ u => p5_exact d0 b u
  | rs1 b ⟨_ + 1, _⟩ u => rC_exact b _ u
  | rs2 ⟨0, _⟩ t => hpM.wordExact_slice rfl _ (k0_off13_wordsbf16 d0 t)
  | rs2 ⟨_ + 1, _⟩ t => r2C_exact _ t
  | ag2 h t => o2_exact d0 h t
  | ag1 b h u => o1_exact d0 b h u
theorem dst_exact (d0 : Dev nD) : ∀ i, (dstM d0 i).view.WordExact
  | rs1 b h u => rC_exact b h u
  | rs2 h t => r2C_exact h t
  | ag2 h t => o2_exact d0 h t
  | ag1 b h u => o1_exact d0 b h u

/-- Element `(h, u)` of a `7 × 3`, of a `3 × 3` array of DMA semaphores. -/
abbrev at1 (a : DmaSems sig S7x3) (h : Fin 7) (u : Fin 3) : DmaSem sig :=
  ((a.slice (Rect.unit (s := S7x3) ![h.val, u.val] S1x1.size (inbS1 h u))).squeeze S_ squeezes_S1x1_S_).sem
abbrev at2 (a : DmaSems sig S3x3) (h t : Fin 3) : DmaSem sig :=
  ((a.slice (Rect.unit (s := S3x3) ![h.val, t.val] S1x1.size (inbS2 h t))).squeeze S_ squeezes_S1x1_S_).sem

abbrev sendS : Cp → DmaSem sig
  | rs1 false h u => at1 cc0_scratch4 h u
  | rs1 true h u => at1 cc0_scratch6 h u
  | rs2 h t => at2 cc0_scratch8 h t
  | ag2 h t => at2 cc0_scratch10 h t
  | ag1 false h u => at1 cc0_scratch12 h u
  | ag1 true h u => at1 cc0_scratch14 h u
abbrev recvS : Cp → DmaSem sig
  | rs1 false h u => at1 cc0_scratch5 h u
  | rs1 true h u => at1 cc0_scratch7 h u
  | rs2 h t => at2 cc0_scratch9 h t
  | ag2 h t => at2 cc0_scratch11 h t
  | ag1 false h u => at1 cc0_scratch13 h u
  | ag1 true h u => at1 cc0_scratch15 h u

/-- The four neighbours a device signals, in the order it signals them: left and right on its ring of eight,
    left and right on its ring of four. -/
abbrev nb (d0 : Dev nD) : Fin 4 → Dev nD
  | ⟨0, _⟩ => ⟨k0_dev1 d0, k0_dev1_lt d0⟩
  | ⟨1, _⟩ => ⟨k0_dev2 d0, k0_dev2_lt d0⟩
  | ⟨2, _⟩ => ⟨k0_dev3 d0, k0_dev3_lt d0⟩
  | ⟨_ + 3, _⟩ => ⟨k0_dev4 d0, k0_dev4_lt d0⟩

/-- Which neighbour a copy goes to. -/
abbrev dir : Cp → Fin 4
  | rs1 false _ _ => 1
  | rs1 true _ _ => 0
  | rs2 _ _ => 3
  | ag2 _ _ => 3
  | ag1 false _ _ => 1
  | ag1 true _ _ => 0

/-! ## The instructions -/

/-- The instructions. `sig n`: signal neighbour `n`'s barrier; `slab d`: the partial product of the slab `d`
    places on; `bar`: wait for the four signals; `send`, `wait`, `drain`: a copy's enqueueing, the wait for its
    arrival here, the wait for its departure from here; `acc1`, `acc2`: add the own partial product to what
    arrived; `fin`: the last addition of the first reduce-scatter; `gel t`: the last addition of the second and
    the activation; `regP`, `regO`: no effect, the places where the proof cuts the rows of a buffer anew. -/
inductive Ins
  | sig (n : Fin 4)
  | slab (d : Fin 8)
  | bar
  | send (i : Cp)
  | wait (i : Cp)
  | drain (i : Cp)
  | acc1 (b : Bool) (h : Fin 6) (u : Fin 3)
  | fin (b : Bool) (u : Fin 3)
  | acc2 (h : Fin 2) (t : Fin 3)
  | gel (t : Fin 3)
  | regP
  | regO
  deriving DecidableEq

abbrev bsem : Sems sig S_ := SemArray.scalar (sig.barrier 0 rfl)

/-- A program that reads and writes on this mesh. -/
abbrev P (F : FTy → Type) := Prog (TpuEff nD τ sig (Elt F) Λ₀ .tc) PUnit

/-- One slab's product: rows of the first operand read, multiplied, stored. -/
abbrev slabAt (bv : FVec F S768x1536 .bf16) (off off' : Fin 2 → Nat) (h : ∀ a, off a + S192x768.size a ≤ S1536x768.size a)
    (h' : ∀ a, off' a + S192x1536.size a ≤ S1536x1536.size a)
    (hp : (Rect.unit (s := S1536x1536) off' S192x1536.size h').PackedRows (EltTy.packing .bf16)) (k : P F) : P F :=
  .op (.load aM (Rect.unit (s := S1536x768) off S192x768.size h).toLoadRect (View.loadsAt_vmem h_S192x768)) fun v =>
  .op (.load pM (Rect.unit (s := S1536x1536) off' S192x1536.size h').toLoadRect (View.loadsAt_vmem h_S192x1536)) fun _ =>
  .op (.store pM (Rect.unit (s := S1536x1536) off' S192x1536.size h') (k0_pay2 bv v) Finset.univ
    (View.stores_vmem h_S192x1536 (hpM.storeExact_slice rfl _ hp) (fun _ => rfl)) (.inl rfl)) fun _ => k

/-- Add rows of the partial product to chunk `(h, u)` of a landing buffer of the first reduce-scatter. -/
abbrev acc1At (b : Bool) (h : Fin 7) (u : Fin 3) (off : Fin 2 → Nat)
    (ho : ∀ a, off a + S32x1536.size a ≤ S1536x1536.size a) (k : P F) : P F :=
  .op (.load (rM b) (rect1 h u).toLoadRect (View.loadsAt_vmem h_S1x1x32x1536)) fun v =>
  .op (.load pM (Rect.unit (s := S1536x1536) off S32x1536.size ho).toLoadRect (View.loadsAt_vmem h_S32x1536)) fun w =>
  .op (.load (rM b) (rect1 h u).toLoadRect (View.loadsAt_vmem h_S1x1x32x1536)) fun _ =>
  .op (.store (rM b) (rect1 h u) (k0_pay6 v w) Finset.univ
    (View.stores_vmem h_S1x1x32x1536 ((hrM b).storeExact_slice rfl _ (packed1 h u)) (fun _ => rfl)) (.inl rfl)) fun _ => k

/-- Add rows of the partial product to chunk `(h, t)` of the second reduce-scatter's landing buffer. -/
abbrev acc2At (h t : Fin 3) (off : Fin 2 → Nat) (ho : ∀ a, off a + S16x1536.size a ≤ S1536x1536.size a) (k : P F) : P F :=
  .op (.load r2M (rect2 h t).toLoadRect (View.loadsAt_vmem h_S1x1x16x1536)) fun v =>
  .op (.load pM (Rect.unit (s := S1536x1536) off S16x1536.size ho).toLoadRect (View.loadsAt_vmem h_S16x1536)) fun w =>
  .op (.load r2M (rect2 h t).toLoadRect (View.loadsAt_vmem h_S1x1x16x1536)) fun _ =>
  .op (.store r2M (rect2 h t) (k0_pay55 v w) Finset.univ
    (View.stores_vmem h_S1x1x16x1536 (hr2M.storeExact_slice rfl _ (packed2 h t)) (fun _ => rfl)) (.inl rfl)) fun _ => k

/-- Add what arrived last on the ring of eight to rows of the partial product, in place. -/
abbrev finAt (b : Bool) (u : Fin 3) (off : Fin 2 → Nat) (ho : ∀ a, off a + S32x1536.size a ≤ S1536x1536.size a)
    (hp : (Rect.unit (s := S1536x1536) off S32x1536.size ho).PackedRows (EltTy.packing .bf16)) (k : P F) : P F :=
  .op (.load pM (Rect.unit (s := S1536x1536) off S32x1536.size ho).toLoadRect (View.loadsAt_vmem h_S32x1536)) fun w =>
  .op (.load (rM b) (rect1 6 u).toLoadRect (View.loadsAt_vmem h_S1x1x32x1536)) fun v =>
  .op (.load pM (Rect.unit (s := S1536x1536) off S32x1536.size ho).toLoadRect (View.loadsAt_vmem h_S32x1536)) fun _ =>
  .op (.store pM (Rect.unit (s := S1536x1536) off S32x1536.size ho) (k0_pay48 w v) Finset.univ
    (View.stores_vmem h_S32x1536 (hpM.storeExact_slice rfl _ hp) (fun _ => rfl)) (.inl rfl)) fun _ => k

/-- Add what arrived last on the ring of four to rows of the partial product, apply the activation, store into the
    result. -/
abbrev gelAt (t : Fin 3) (off : Fin 2 → Nat) (ho : ∀ a, off a + S16x1536.size a ≤ S1536x1536.size a)
    (hp : (Rect.unit (s := S1536x1536) off S16x1536.size ho).PackedRows (EltTy.packing .bf16)) (k : P F) : P F :=
  .op (.load pM (Rect.unit (s := S1536x1536) off S16x1536.size ho).toLoadRect (View.loadsAt_vmem h_S16x1536)) fun w =>
  .op (.load r2M (rect2 2 t).toLoadRect (View.loadsAt_vmem h_S1x1x16x1536)) fun v =>
  .op (.load oM (Rect.unit (s := S1536x1536) off S16x1536.size ho).toLoadRect (View.loadsAt_vmem h_S16x1536)) fun _ =>
  .op (.store oM (Rect.unit (s := S1536x1536) off S16x1536.size ho) (k0_pay65 (k0_pay63 w v) (k0_pay64 w v)) Finset.univ
    (View.stores_vmem h_S16x1536 (hoM.storeExact_slice rfl _ hp) (fun _ => rfl)) (.inl rfl)) fun _ => k

/-- One instruction, run before `k`, on device `d0` with second operand `bv`. -/
abbrev step (d0 : Dev nD) (bv : FVec F S768x1536 .bf16) : Ins → P F → P F
  | .sig n, k => .op (.semSignal (Dev.tc (nb d0 n)) bsem.sem 1) fun _ => k
  | .slab ⟨0, _⟩, k => slabAt bv (k0_off9 d0) (k0_off10 d0) (k0_off9_inb d0) (k0_off10_inb d0) (k0_off10_packedbf16 d0) k
  | .slab ⟨d + 1, hd⟩, k =>
    if h : d < 4 then slabAt bv (k0_off3 d0 (BitVec.ofNat 32 (1 + d))) (k0_off4 d0 (BitVec.ofNat 32 (1 + d))) (k0_off3_inb d0 ⟨d, h⟩) (k0_off4_inb d0 ⟨d, h⟩)
      (k0_off4_packedbf16 d0 ⟨d, h⟩) k
    else slabAt bv (k0_off1 d0 (BitVec.ofNat 32 (1 + (6 - d)))) (k0_off2 d0 (BitVec.ofNat 32 (1 + (6 - d)))) (k0_off1_inb d0 ⟨6 - d, by omega⟩)
      (k0_off2_inb d0 ⟨6 - d, by omega⟩) (k0_off2_packedbf16 d0 ⟨6 - d, by omega⟩) k
  | .bar, k => .op (.semWait bsem.sem 4) fun _ => k
  | .send i, k => .op (.enqueueDma (srcM d0 i) (.remote (Dev.tc (nb d0 (dir i))) (dstM d0 i) (.dma (sendS i))) (.dma (recvS i))
      (src_exact d0 i) (dst_exact d0 i) ⟨⟨rfl, Or.inl rfl⟩, trivial⟩) fun _ => k
  | .wait i, k => .op (.waitDma2 (recvS i) (srcM d0 i) (dstM d0 i) (src_exact d0 i) (dst_exact d0 i)) fun _ => k
  | .drain i, k => .op (.waitDma2 (sendS i) (dstM d0 i) (srcM d0 i) (dst_exact d0 i) (src_exact d0 i)) fun _ => k
  | .acc1 false h u, k => acc1At false h.castSucc u (k0_off7 d0 (BitVec.ofNat 32 (1 + h.val)) (w32 u)) (k0_off7_inb d0 h u) k
  | .acc1 true h u, k => acc1At true h.castSucc u (k0_off8 d0 (BitVec.ofNat 32 (1 + h.val)) (w32 u)) (k0_off8_inb d0 h u) k
  | .fin false u, k => finAt false u (k0_off11 d0 (w32 u)) (k0_off11_inb d0 u) (k0_off11_packedbf16 d0 u) k
  | .fin true u, k => finAt true u (k0_off12 d0 (w32 u)) (k0_off12_inb d0 u) (k0_off12_packedbf16 d0 u) k
  | .acc2 h t, k => acc2At h.castSucc t (k0_off14 d0 (BitVec.ofNat 32 (1 + h.val)) (w16 t)) (k0_off14_inb d0 h t) k
  | .gel t, k => gelAt t (k0_off15 d0 (w16 t)) (k0_off15_inb d0 t) (k0_off15_packedbf16 d0 t) k
  | .regP, k => k
  | .regO, k => k

/-- The instructions of a list in order, then `k`. -/
def run (d0 : Dev nD) (bv : FVec F S768x1536 .bf16) : List Ins → P F → P F
  | [], k => k
  | i :: l, k => step d0 bv i (run d0 bv l k)

/-! ## The body's instructions -/

abbrev us : List (Fin 3) := [0, 1, 2]

def sigs : List Ins := [.sig 0, .sig 1, .sig 2, .sig 3]

/-- The slabs computed while the copies of a hop of the first reduce-scatter are in flight. -/
def slabs : Fin 6 → List Ins
  | 0 => [.slab 6, .slab 2]
  | 1 => [.slab 5, .slab 3]
  | 2 => [.slab 4]
  | 3 => [.slab 0]
  | _ => []

/-- The two slabs sent first, the barrier, the first hop. -/
def blkA : List Ins :=
  [.slab 7, .slab 1, .bar] ++ us.flatMap fun u => [.send (.rs1 false 0 u), .send (.rs1 true 0 u)]
/-- A later hop of the first reduce-scatter. -/
def blkH (h : Fin 6) : List Ins :=
  slabs h ++ us.flatMap fun u =>
    [.wait (.rs1 false h.castSucc u), .acc1 false h u, .send (.rs1 false h.succ u),
     .wait (.rs1 true h.castSucc u), .acc1 true h u, .send (.rs1 true h.succ u)]
/-- The end of the first reduce-scatter, the first hop of the second. -/
def blkB : List Ins :=
  (us.flatMap fun u => [.wait (.rs1 false 6 u), .wait (.rs1 true 6 u), .fin false u, .fin true u])
  ++ .regP :: us.map fun t => .send (.rs2 0 t)
def blkR (h : Fin 2) : List Ins :=
  us.flatMap fun t => [.wait (.rs2 h.castSucc t), .acc2 h t, .send (.rs2 h.succ t)]
/-- The activation, the first hop of the second all-gather. -/
def blkG : List Ins :=
  us.flatMap fun t => [.wait (.rs2 2 t), .gel t, .send (.ag2 0 t)]
def blkS (h : Fin 2) : List Ins :=
  us.flatMap fun t => [.wait (.ag2 h.castSucc t), .send (.ag2 h.succ t)]
/-- The end of the second all-gather, the first hop of the first. -/
def blkC : List Ins :=
  (us.map fun t => .wait (.ag2 2 t)) ++ .regO :: us.flatMap fun u => [.send (.ag1 false 0 u), .send (.ag1 true 0 u)]
def blkT (h : Fin 6) : List Ins :=
  us.flatMap fun u => [.wait (.ag1 false h.castSucc u), .wait (.ag1 true h.castSucc u),
    .send (.ag1 false h.succ u), .send (.ag1 true h.succ u)]
def blkD : List Ins :=
  us.flatMap fun u => [.wait (.ag1 false 6 u), .wait (.ag1 true 6 u)]
/-- The waits for the departures, in the order of the sends. -/
def blkE : List Ins :=
  ((List.finRange 7).flatMap fun h => us.flatMap fun u => [.drain (.rs1 false h u), .drain (.rs1 true h u)])
  ++ ((List.finRange 3).flatMap fun h => us.map fun t => .drain (.rs2 h t))
  ++ ((List.finRange 3).flatMap fun h => us.map fun t => .drain (.ag2 h t))
  ++ ((List.finRange 7).flatMap fun h => us.flatMap fun u => [.drain (.ag1 false h u), .drain (.ag1 true h u)])

def body : List Ins :=
  blkA ++ (List.finRange 6).flatMap blkH ++ blkB ++ (List.finRange 2).flatMap blkR ++ blkG ++ (List.finRange 2).flatMap blkS
    ++ blkC ++ (List.finRange 6).flatMap blkT ++ blkD ++ blkE

/-- The whole body. -/
def prog : P F :=
  .op .deviceId fun d0 => run d0 (constant S768x1536 .bf16 0#16) sigs <|
  .op (.load bM (Rect.unit (s := S768x1536) ![0, 0] S768x1536.size inb_S768x1536_S768x1536_0_0).toLoadRect (View.loadsAt_vmem h_S768x1536)) fun v =>
  run d0 (k0_pay1 v) body (.ret ⟨⟩)

set_option maxRecDepth 100000 in
/-- The printed body is the list's run. -/
theorem body_eq : (cc0_body aM (hstage0_0 0) bM (hstage0_1 0) oM (hstage0_2 0) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    cc0_scratch4 cc0_scratch5 cc0_scratch6 cc0_scratch7 cc0_scratch8 cc0_scratch9 cc0_scratch10 cc0_scratch11 cc0_scratch12 cc0_scratch13 cc0_scratch14 cc0_scratch15 : P F)
    = prog := by
  chain_rfl

end Cert.KernelIdeal.Machine
-- ==== Proof.Topo.lean ====
/- The mesh and the tiling in closed form: a device's place on its two rings, its neighbours, the rows and the
   semaphores each copy names. -/
module

public import proofs.«01_k».proof.Proof.Machine

@[expose] public section

noncomputable section

namespace Cert.KernelIdeal.Machine

open Idealize.ShloMosaic Idealize.SL.Sem
open Cert.KernelIdeal.Gen
open Cp

/-! ## Places on the two rings -/

/-- A device's place on its ring of eight. -/
def qOf (c : Dev nD) : Nat := [0, 1, 2, 7, 6, 3, 4, 5].getD (c.val % 8) 0
/-- A device's ring of eight: its place on its ring of four. -/
def gOf (c : Dev nD) : Nat := c.val / 8
/-- The device at place `q` of ring `g`. -/
def devAt (g q : Nat) : Dev nD := ⟨(8 * (g % 4) + [0, 1, 2, 5, 6, 7, 4, 3].getD (q % 8) 0) % 32, Nat.mod_lt _ (by decide)⟩

theorem qOf_lt (c : Dev nD) : qOf c < 8 := by revert c; decide +kernel
theorem gOf_lt (c : Dev nD) : gOf c < 4 := by revert c; decide +kernel
theorem devAt_self (c : Dev nD) : devAt (gOf c) (qOf c) = c := by revert c; decide +kernel
theorem qOf_devAt' : ∀ (g : Fin 4) (q : Fin 8), qOf (devAt g.val q.val) = q.val ∧ gOf (devAt g.val q.val) = g.val := by decide +kernel
theorem qOf_devAt {g q : Nat} (hg : g < 4) (hq : q < 8) : qOf (devAt g q) = q := (qOf_devAt' ⟨g, hg⟩ ⟨q, hq⟩).1
theorem gOf_devAt {g q : Nat} (hg : g < 4) (hq : q < 8) : gOf (devAt g q) = g := (qOf_devAt' ⟨g, hg⟩ ⟨q, hq⟩).2

/-- The opposite direction. -/
def opp : Fin 4 → Fin 4
  | 0 => 1
  | 1 => 0
  | 2 => 3
  | 3 => 2

theorem opp_opp (n : Fin 4) : opp (opp n) = n := by revert n; decide
theorem nb_opp (c : Dev nD) (n : Fin 4) : nb (nb c n) (opp n) = c := by revert c n; decide +kernel
theorem nb_opp' (c : Dev nD) (n : Fin 4) : nb (nb c (opp n)) n = c := by
  have h := nb_opp c (opp n); rwa [opp_opp] at h
theorem qOf_nb (c : Dev nD) (n : Fin 4) : qOf (nb c n) = (qOf c + ![7, 1, 0, 0] n) % 8 := by revert c n; decide +kernel
theorem gOf_nb (c : Dev nD) (n : Fin 4) : gOf (nb c n) = (gOf c + ![0, 0, 3, 1] n) % 4 := by revert c n; decide +kernel

/-! ## Rows -/

/-- First row of the slab `d` places on. -/
def lrow (c : Dev nD) (d : Nat) : Nat := 192 * ((qOf c + d) % 8)
/-- First row of chunk `u` of half `b` of the slab `d` places on. -/
def prow (c : Dev nD) (d : Nat) (b : Bool) (u : Nat) : Nat := 192 * ((qOf c + d) % 8) + (cond b 96 0 + 32 * u)
/-- First row of chunk `t` of the own slab's quarter `s` places on. -/
def srow (c : Dev nD) (s t : Nat) : Nat := 192 * qOf c + (48 * ((gOf c + s) % 4) + 16 * t)

theorem off1_eq : ∀ (c : Dev nD) (r : Fin 3), k0_off1 c (BitVec.ofNat 32 (1 + r.val)) = ![lrow c (7 - r.val), 0] := by decide +kernel
theorem off2_eq : ∀ (c : Dev nD) (r : Fin 3), k0_off2 c (BitVec.ofNat 32 (1 + r.val)) = ![lrow c (7 - r.val), 0] := by decide +kernel
theorem off3_eq : ∀ (c : Dev nD) (r : Fin 4), k0_off3 c (BitVec.ofNat 32 (1 + r.val)) = ![lrow c (1 + r.val), 0] := by decide +kernel
theorem off4_eq : ∀ (c : Dev nD) (r : Fin 4), k0_off4 c (BitVec.ofNat 32 (1 + r.val)) = ![lrow c (1 + r.val), 0] := by decide +kernel
theorem off9_eq : ∀ (c : Dev nD), k0_off9 c = ![lrow c 0, 0] := by decide +kernel
theorem off10_eq : ∀ (c : Dev nD), k0_off10 c = ![lrow c 0, 0] := by decide +kernel
theorem off5_eq : ∀ (c : Dev nD) (u : Fin 3), k0_off5 c (w32 u) = ![prow c 7 false u.val, 0] := by decide +kernel
theorem off6_eq : ∀ (c : Dev nD) (u : Fin 3), k0_off6 c (w32 u) = ![prow c 1 true u.val, 0] := by decide +kernel
theorem off7_eq : ∀ (c : Dev nD) (h : Fin 6) (u : Fin 3), k0_off7 c (BitVec.ofNat 32 (1 + h.val)) (w32 u) = ![prow c (6 - h.val) false u.val, 0] := by
  decide +kernel
theorem off8_eq : ∀ (c : Dev nD) (h : Fin 6) (u : Fin 3), k0_off8 c (BitVec.ofNat 32 (1 + h.val)) (w32 u) = ![prow c (h.val + 2) true u.val, 0] := by
  decide +kernel
theorem off11_eq : ∀ (c : Dev nD) (u : Fin 3), k0_off11 c (w32 u) = ![prow c 0 false u.val, 0] := by decide +kernel
theorem off12_eq : ∀ (c : Dev nD) (u : Fin 3), k0_off12 c (w32 u) = ![prow c 0 true u.val, 0] := by decide +kernel
theorem off13_eq : ∀ (c : Dev nD) (t : Fin 3), k0_off13 c (w16 t) = ![srow c 3 t.val, 0] := by decide +kernel
theorem off14_eq : ∀ (c : Dev nD) (h : Fin 2) (t : Fin 3), k0_off14 c (BitVec.ofNat 32 (1 + h.val)) (w16 t) = ![srow c (2 - h.val) t.val, 0] := by
  decide +kernel
theorem off15_eq : ∀ (c : Dev nD) (t : Fin 3), k0_off15 c (w16 t) = ![srow c 0 t.val, 0] := by decide +kernel
theorem off16_eq : ∀ (c : Dev nD) (t : Fin 3), k0_off16 c (w16 t) = ![srow c 0 t.val, 0] := by decide +kernel
theorem off17_eq : ∀ (c : Dev nD) (h : Fin 2) (t : Fin 3), k0_off17 c (BitVec.ofNat 32 (1 + h.val)) (w16 t) = ![srow c (3 - h.val) t.val, 0] := by
  decide +kernel
theorem off18_eq : ∀ (c : Dev nD) (h : Fin 7) (u : Fin 3), k0_off18 c (BitVec.ofNat 32 h.val) (w32 u) = ![prow c ((8 - h.val) % 8) false u.val, 0] := by
  decide +kernel
theorem off19_eq : ∀ (c : Dev nD) (h : Fin 7) (u : Fin 3), k0_off19 c (BitVec.ofNat 32 h.val) (w32 u) = ![prow c h.val true u.val, 0] := by
  decide +kernel

/-! ## Semaphores -/

/-- The copies' semaphores' places, departures (`false`) and arrivals (`true`). -/
def place : Bool → Cp → Nat
  | false, rs1 false h u => 3 + (3 * h.val + u.val)
  | true, rs1 false h u => 24 + (3 * h.val + u.val)
  | false, rs1 true h u => 45 + (3 * h.val + u.val)
  | true, rs1 true h u => 66 + (3 * h.val + u.val)
  | false, rs2 h t => 87 + (3 * h.val + t.val)
  | true, rs2 h t => 96 + (3 * h.val + t.val)
  | false, ag2 h t => 105 + (3 * h.val + t.val)
  | true, ag2 h t => 114 + (3 * h.val + t.val)
  | false, ag1 false h u => 123 + (3 * h.val + u.val)
  | true, ag1 false h u => 144 + (3 * h.val + u.val)
  | false, ag1 true h u => 165 + (3 * h.val + u.val)
  | true, ag1 true h u => 186 + (3 * h.val + u.val)

/-- A copy's semaphore: of its departure (`false`), of its arrival (`true`). -/
abbrev dsem (r : Bool) (i : Cp) : DmaSem sig := cond r (recvS i) (sendS i)

theorem dsem_val (r : Bool) (i : Cp) : (dsem r i).val = place r i := by
  rcases i with ⟨b, h, u⟩ | ⟨h, u⟩ | ⟨h, u⟩ | ⟨b, h, u⟩ <;> revert h u <;> (try revert b) <;> revert r <;> decide +kernel

/-- A place's hop and chunk. -/
def m7 (n : Nat) : Fin 7 := ⟨(n / 3) % 7, Nat.mod_lt _ (by decide)⟩
def m3 (n : Nat) : Fin 3 := ⟨(n / 3) % 3, Nat.mod_lt _ (by decide)⟩
def l3 (n : Nat) : Fin 3 := ⟨n % 3, Nat.mod_lt _ (by decide)⟩

/-- The copy a place belongs to. -/
def unplace (n : Nat) : Option (Bool × Cp) :=
  if n < 3 then none
  else if n < 24 then some (false, rs1 false (m7 (n - 3)) (l3 n))
  else if n < 45 then some (true, rs1 false (m7 (n - 24)) (l3 n))
  else if n < 66 then some (false, rs1 true (m7 (n - 45)) (l3 n))
  else if n < 87 then some (true, rs1 true (m7 (n - 66)) (l3 n))
  else if n < 96 then some (false, rs2 (m3 (n - 87)) (l3 n))
  else if n < 105 then some (true, rs2 (m3 (n - 96)) (l3 n))
  else if n < 114 then some (false, ag2 (m3 (n - 105)) (l3 n))
  else if n < 123 then some (true, ag2 (m3 (n - 114)) (l3 n))
  else if n < 144 then some (false, ag1 false (m7 (n - 123)) (l3 n))
  else if n < 165 then some (true, ag1 false (m7 (n - 144)) (l3 n))
  else if n < 186 then some (false, ag1 true (m7 (n - 165)) (l3 n))
  else some (true, ag1 true (m7 (n - 186)) (l3 n))

theorem unplace_place (r : Bool) (i : Cp) : unplace (place r i) = some (r, i) := by
  rcases i with ⟨b, h, u⟩ | ⟨h, u⟩ | ⟨h, u⟩ | ⟨b, h, u⟩ <;> revert h u <;> (try revert b) <;> revert r <;> decide +kernel

theorem unplace_dsem (r : Bool) (i : Cp) : unplace (dsem r i).val = some (r, i) := by rw [dsem_val, unplace_place]

theorem place_lo (r : Bool) (i : Cp) : 3 ≤ place r i := by
  rcases i with ⟨b, h, u⟩ | ⟨h, u⟩ | ⟨h, u⟩ | ⟨b, h, u⟩ <;> (try rcases b) <;> rcases r <;> simp only [place] <;> omega

/-- Every copy once. -/
def cps : List Cp :=
  ([false, true].flatMap fun b => (List.finRange 7).flatMap fun h => us.map fun u => rs1 b h u)
  ++ ((List.finRange 3).flatMap fun h => us.map fun t => rs2 h t)
  ++ ((List.finRange 3).flatMap fun h => us.map fun t => ag2 h t)
  ++ ([false, true].flatMap fun b => (List.finRange 7).flatMap fun h => us.map fun u => ag1 b h u)

theorem cps_nodup : cps.Nodup := by decide +kernel
theorem mem_cps (i : Cp) : i ∈ cps := by
  rcases i with ⟨b, h, u⟩ | ⟨h, u⟩ | ⟨h, u⟩ | ⟨b, h, u⟩ <;> revert h u <;> (try revert b) <;> decide +kernel

instance : Fintype Cp := ⟨⟨cps, cps_nodup⟩, mem_cps⟩

theorem univ_cps : (Finset.univ : Finset Cp) = cps.toFinset := by ext i; simp [mem_cps]

/-- What a copy's two semaphores count: its words. -/
abbrev amt (i : Cp) : Nat := (dstM 0 i).view.dmaCredit

theorem amt_dst (c : Dev nD) (i : Cp) : (dstM c i).view.dmaCredit = amt i := by
  rcases i with ⟨b, h, u⟩ | ⟨h, u⟩ | ⟨⟨h, hh⟩, u⟩ | ⟨b, h, u⟩
  · rfl
  · rfl
  · rcases h with _ | h <;> rfl
  · rcases b <;> rfl
theorem amt_src (c : Dev nD) (i : Cp) : (srcM c i).view.dmaCredit = amt i := by
  rcases i with ⟨b, ⟨h, hh⟩, u⟩ | ⟨⟨h, hh⟩, u⟩ | ⟨⟨h, hh⟩, u⟩ | ⟨b, h, u⟩
  · rcases b <;> rcases h with _ | h <;> rfl
  · rcases h with _ | h <;> rfl
  · rcases h with _ | h <;> rfl
  · rcases b <;> rfl
theorem amt_pos (i : Cp) : 0 < amt i := View.dmaCredit_pos _ (match i with
  | rs1 _ _ _ => (by decide : 0 < S32x1536.numel)
  | rs2 _ _ => (by decide : 0 < S16x1536.numel)
  | ag2 _ _ => (by decide : 0 < S16x1536.numel)
  | ag1 _ _ _ => (by decide : 0 < S32x1536.numel))

end Cert.KernelIdeal.Machine
-- ==== Proof.Contents.lean ====
/- What every buffer and every copy holds during a run, as functions of the operands' blocks: the partial products,
   the running sums of the two reduce-scatters, the result. -/
module

public import proofs.«01_k».proof.Proof.Topo
public import Idealize.ShloMosaic.Lib.ValueIdxCore
public import Idealize.ShloMosaic.Lib.Pipeline.Value

@[expose] public section

noncomputable section

namespace Cert.KernelIdeal.Machine

open Idealize.ShloMosaic Idealize.SL.Sem
open Idealize.ShloMosaic.ValueIdx (ix2 eq_ix2 idx2_lt0 idx2_lt1)
open Cert.KernelIdeal.Gen
open Cp

variable {F : FTy → Type} [FloatOps F]

/-! ## Rows of a matrix -/

/-- A matrix of `n` rows of `w` entries. -/
abbrev Mat (F : FTy → Type) (n w : Nat) : Type := FVec F (⟨2, ![n, w]⟩ : Shape) .bf16

/-- `n` rows from row `a` of a matrix of 1536 rows. -/
def rows {w : Nat} (n : Nat) (f : Mat F 1536 w) (a : Nat) : Mat F n w :=
  fun j => f (ix2 ⟨(a + (j 0).val) % 1536, Nat.mod_lt _ (by decide)⟩ (j 1))

/-- The matrix of 1536 rows whose block of `n` rows from row `a`, a multiple of `n`, is `f a`. -/
def glue (n : Nat) [NeZero n] (f : Nat → Mat F n 1536) : Mat F 1536 1536 :=
  fun i => f (n * ((i 0).val / n)) (ix2 ⟨(i 0).val % n, Nat.mod_lt _ (NeZero.pos n)⟩ (i 1))

omit [FloatOps F] in
theorem rows_glue (n : Nat) [NeZero n] (f : Nat → Mat F n 1536) (a : Nat) (ha : a % n = 0) (hb : a + n ≤ 1536) : rows n (glue n f) a = f a := by
  funext j
  have hj : (j 0).val < n := idx2_lt0 j
  have hn : 0 < n := NeZero.pos n
  obtain ⟨k, rfl⟩ : ∃ k, a = n * k := ⟨a / n, (Nat.mul_div_cancel' (Nat.dvd_of_mod_eq_zero ha)).symm⟩
  have e1 : (n * k + (j 0).val) % 1536 = n * k + (j 0).val := Nat.mod_eq_of_lt (by omega)
  have e2 : (n * k + (j 0).val) / n = k := by rw [Nat.mul_add_div hn, Nat.div_eq_of_lt hj, Nat.add_zero]
  have e3 : (n * k + (j 0).val) % n = (j 0).val := by rw [Nat.mul_add_mod, Nat.mod_eq_of_lt hj]
  have key : ∀ r : Nat, r / n = k → (hr : r % n = (j 0).val) → f (n * (r / n)) (ix2 ⟨r % n, Nat.mod_lt _ hn⟩ (j 1)) = f (n * k) j := by
    intro r h1 h2
    rw [h1]
    refine congrArg _ (Eq.trans ?_ (eq_ix2 j).symm)
    exact congrArg (fun x => ix2 x (j 1)) (Fin.ext h2)
  exact key ((n * k + (j 0).val) % 1536) (by rw [e1, e2]) (by rw [e1, e3])

/-! ## The contents -/

section
variable (A : Dev nD → Mat F 1536 768) (B : Dev nD → Mat F 768 1536)

/-- A device's partial product, slab by slab. -/
def Pm (c : Dev nD) : Mat F 1536 1536 := glue 192 fun a => k0_pay2 (k0_pay1 (B c)) (rows 192 (A c) a)

/-- The slab that hop `h` of a ring of eight moves, relative to the sender's own. -/
abbrev dd (b : Bool) (h : Nat) : Nat := cond b (1 + h) (7 - h)

/-- What device `c` sends in hop `h` of the first reduce-scatter. -/
def v1 (b : Bool) (u : Nat) : Nat → Dev nD → Mat F 32 1536
  | 0, c => rows 32 (Pm A B c) (prow c (dd b 0) b u)
  | h + 1, c => addf (v1 b u h (nb c (cond b 1 0))) (rows 32 (Pm A B c) (prow c (dd b (h + 1)) b u))

/-- A device's own slab after the first reduce-scatter (elsewhere unused). -/
def P2 (c : Dev nD) : Mat F 1536 1536 :=
  glue 32 fun a => addf (rows 32 (Pm A B c) a)
    (v1 A B (decide (96 ≤ a % 192)) ((a % 96) / 32) 6 (nb c (cond (decide (96 ≤ a % 192)) 1 0)))

/-- What device `c` sends in hop `h` of the second reduce-scatter. -/
def v2 (t : Nat) : Nat → Dev nD → Mat F 16 1536
  | 0, c => rows 16 (P2 A B c) (srow c 3 t)
  | h + 1, c => addf (v2 t h (nb c 2)) (rows 16 (P2 A B c) (srow c (3 - (h + 1)) t))

/-- The last addition and the activation. -/
def gl (w x : Mat F 16 1536) : Mat F 16 1536 :=
  k0_pay65 (k0_pay63 w (shapeCast S1x1x16x1536 x shapeCasts_S16x1536_S1x1x16x1536))
    (k0_pay64 w (shapeCast S1x1x16x1536 x shapeCasts_S16x1536_S1x1x16x1536))

/-- The result: block `a` of 16 rows computed by the device that owns it. -/
def Out : Mat F 1536 1536 :=
  glue 16 fun a => gl (rows 16 (P2 A B (devAt ((a % 192) / 48) (a / 192))) a) (v2 A B ((a % 48) / 16) 2 (nb (devAt ((a % 192) / 48) (a / 192)) 2))

/-- What device `c` sends in copy `i`. -/
def val (c : Dev nD) : (i : Cp) → (shp i).Idx → Elt F .bf16
  | rs1 b h u => v1 A B b u.val h.val c
  | rs2 h t => v2 A B t.val h.val c
  | ag2 h t => rows 16 (Out A B) (srow c ((4 - h.val) % 4) t.val)
  | ag1 b h u => rows 32 (Out A B) (prow c (cond b h.val ((8 - h.val) % 8)) b u.val)

theorem prow_le (c : Dev nD) (d : Nat) (b : Bool) (u : Fin 3) : prow c d b u.val + 32 ≤ 1536 := by
  have := u.isLt; have := Nat.mod_lt (qOf c + d) (show 0 < 8 by decide)
  cases b <;> simp only [prow, cond] <;> omega
theorem prow_mod (c : Dev nD) (d : Nat) (b : Bool) (u : Fin 3) : prow c d b u.val % 32 = 0 := by
  cases b <;> simp only [prow, cond] <;> omega
theorem srow_le (c : Dev nD) (s : Nat) (t : Fin 3) : srow c s t.val + 16 ≤ 1536 := by
  have := t.isLt; have := qOf_lt c; have := Nat.mod_lt (gOf c + s) (show 0 < 4 by decide)
  simp only [srow]; omega
theorem srow_mod (c : Dev nD) (s : Nat) (t : Fin 3) : srow c s t.val % 16 = 0 := by simp only [srow]; omega
theorem lrow_le (c : Dev nD) (d : Nat) : lrow c d + 192 ≤ 1536 := by
  have := Nat.mod_lt (qOf c + d) (show 0 < 8 by decide); simp only [lrow]; omega

/-- A slab's product where it is stored. -/
theorem rows_Pm (c : Dev nD) (d : Nat) : rows 192 (Pm A B c) (lrow c d) = k0_pay2 (k0_pay1 (B c)) (rows 192 (A c) (lrow c d)) :=
  rows_glue 192 _ _ (by simp only [lrow]; omega) (lrow_le c d)

/-- The own slab's chunk after the first reduce-scatter. -/
theorem rows_P2 (c : Dev nD) (b : Bool) (u : Fin 3) :
    rows 32 (P2 A B c) (prow c 0 b u.val) = addf (rows 32 (Pm A B c) (prow c 0 b u.val)) (v1 A B b u.val 6 (nb c (cond b 1 0))) := by
  have h := rows_glue 32 (fun a => addf (rows 32 (Pm A B c) a)
    (v1 A B (decide (96 ≤ a % 192)) ((a % 96) / 32) 6 (nb c (cond (decide (96 ≤ a % 192)) 1 0)))) _ (prow_mod c 0 b u) (prow_le c 0 b u)
  have hu := u.isLt
  have e1 : decide (96 ≤ prow c 0 b u.val % 192) = b := by
    unfold prow; generalize (qOf c + 0) % 8 = q; cases b
    · exact decide_eq_false (show ¬ 96 ≤ (192 * q + (0 + 32 * u.val)) % 192 by omega)
    · exact decide_eq_true (show 96 ≤ (192 * q + (96 + 32 * u.val)) % 192 by omega)
  have e2 : (prow c 0 b u.val % 96) / 32 = u.val := by
    unfold prow; generalize (qOf c + 0) % 8 = q; cases b
    · show (192 * q + (0 + 32 * u.val)) % 96 / 32 = u.val; omega
    · show (192 * q + (96 + 32 * u.val)) % 96 / 32 = u.val; omega
  rw [e1, e2] at h
  exact h

/-- The result's chunk where it is computed. -/
theorem rows_Out (c : Dev nD) (t : Fin 3) :
    rows 16 (Out A B) (srow c 0 t.val) = gl (rows 16 (P2 A B c) (srow c 0 t.val)) (v2 A B t.val 2 (nb c 2)) := by
  have h := rows_glue 16 (fun a => gl (rows 16 (P2 A B (devAt ((a % 192) / 48) (a / 192))) a)
    (v2 A B ((a % 48) / 16) 2 (nb (devAt ((a % 192) / 48) (a / 192)) 2))) _ (srow_mod c 0 t) (srow_le c 0 t)
  have ht := t.isLt; have hq := qOf_lt c; have hg := gOf_lt c
  have e1 : (srow c 0 t.val % 192) / 48 = gOf c := by simp only [srow]; omega
  have e2 : srow c 0 t.val / 192 = qOf c := by simp only [srow]; omega
  have e3 : (srow c 0 t.val % 48) / 16 = t.val := by simp only [srow]; omega
  rw [e1, e2, e3, devAt_self] at h
  exact h

end

/-! ## Rectangles of rows -/

/-- The entries of rows `a ..< a + n`. -/
def rowSet (a n : Nat) : Finset S1536x1536.Idx := Finset.univ.filter fun i => a ≤ (i 0).val ∧ (i 0).val < a + n

theorem mem_rowSet {a n : Nat} {i : S1536x1536.Idx} : i ∈ rowSet a n ↔ a ≤ (i 0).val ∧ (i 0).val < a + n := by
  simp only [rowSet, Finset.mem_filter, Finset.mem_univ, true_and]

theorem set_rows {n a : Nat} (off : Fin 2 → Nat) (h : ∀ x, off x + (![n, 1536] : Fin 2 → Nat) x ≤ S1536x1536.size x) (e : off = ![a, 0]) :
    (Rect.unit (s := S1536x1536) off ![n, 1536] h).set = rowSet a n := by
  subst e
  ext i
  have h1 : (i 1).val < 1536 := idx2_lt1 i
  rw [Rect.mem_set_unit, mem_rowSet]
  constructor
  · intro hi; exact hi 0
  · intro hi x
    match x with
    | ⟨0, _⟩ => exact hi
    | ⟨1, _⟩ => exact ⟨Nat.zero_le _, by show (i 1).val < 0 + 1536; omega⟩

/-- Reading through a rectangle of whole rows. -/
theorem emb_rows {n w a : Nat} (off : Fin 2 → Nat) (h : ∀ x, off x + (![n, w] : Fin 2 → Nat) x ≤ (⟨2, ![1536, w]⟩ : Shape).size x) (e : off = ![a, 0])
    (j : (⟨2, ![n, w]⟩ : Shape).Idx) :
    (Rect.unit (s := ⟨2, ![1536, w]⟩) off ![n, w] h).emb j = ix2 ⟨(a + (j 0).val) % 1536, Nat.mod_lt _ (by decide)⟩ (j 1) := by
  subst e
  have h0 : a + n ≤ 1536 := h 0
  have hj : (j 0).val < n := idx2_lt0 j
  funext x
  match x with
  | ⟨0, _⟩ => exact Fin.ext (by show a + 1 * (j 0).val = (a + (j 0).val) % 1536; rw [Nat.mod_eq_of_lt (by omega), Nat.one_mul])
  | ⟨1, _⟩ => exact Fin.ext (by show 0 + 1 * (j 1).val = (j 1).val; omega)

end Cert.KernelIdeal.Machine
-- ==== Proof.Protocol.lean ====
/- The protocol: the cells (barrier, departures, arrivals), the duty each transfer of ownership pays, the levels that
   order the waits. -/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Machine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen
open Cp

variable {F : FTy → Type} [FloatOps F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

abbrev barS : Sem sig := bsem.sem
abbrev barCell (c : Dev nD) : GSem nD τ sig := ((c : Thread nD τ), .reg barS)
/-- The cell of copy `i`'s departure (`false`) or arrival (`true`) on device `c`. -/
abbrev dcell (c : Dev nD) (r : Bool) (i : Cp) : GSem nD τ sig := ((c : Thread nD τ), .dma (dsem r i))
abbrev sendCell (c : Dev nD) (i : Cp) : GSem nD τ sig := ((c : Thread nD τ), .dma (sendS i))
abbrev recvCell (c : Dev nD) (i : Cp) : GSem nD τ sig := ((c : Thread nD τ), .dma (recvS i))

/-- A device's cells: the barrier (`none`), each copy's departure and arrival. -/
abbrev Ck : Type := Option (Bool × Cp)
abbrev csem : Ck → SemLoc sig
  | none => .reg barS
  | some (r, i) => .dma (dsem r i)
abbrev kcell (ck : Dev nD × Ck) : GSem nD τ sig := ((ck.1 : Thread nD τ), csem ck.2)

/-- Which of a device's cells a semaphore is. -/
def kindOf : SemLoc sig → Option Ck
  | .reg _ => some none
  | .dma s => (unplace s.val).map some

theorem kindOf_csem (k : Ck) : kindOf (csem k) = some k := by
  rcases k with _ | ⟨r, i⟩
  · rfl
  · show (unplace (dsem r i).val).map some = _
    rw [unplace_dsem]; rfl

theorem kcell_injective : Function.Injective (kcell : Dev nD × Ck → GSem nD τ sig) := by
  rintro ⟨c, k⟩ ⟨c', k'⟩ h
  have h1 : c = c' := congrArg (fun g : GSem nD τ sig => g.1.1) h
  have h2 : csem k = csem k' := congrArg Prod.snd h
  have h3 : some k = some k' := by rw [← kindOf_csem, h2, kindOf_csem]
  cases h1; cases h3; rfl

/-! ## Payloads -/

section
variable (A : Dev nD → Mat F 1536 768) (B : Dev nD → Mat F 768 1536)

/-- Who sends device `c` its copy `i`. -/
abbrev frm (c : Dev nD) (i : Cp) : Dev nD := nb c (opp (dir i))

/-- The share of a copy's source that the copy holds. -/
def shr : Cp → PosShare TreeShare
  | ag2 _ _ => fullShare.left
  | ag1 _ ⟨0, _⟩ _ => fullShare.right
  | _ => fullShare

/-- Copy `i` has landed on `c`. -/
def recvPay (c : Dev nD) (i : Cp) : sProp 𝕄 :=
  owns (Ix := Unit) (Name := ℕ) (U := UU) (Lvl := ℕ) (c : Thread nD τ) (dstM (frm c i) i) fullShare (val A B (frm c i) i)
/-- Copy `i` has left `c`: its source is `c`'s again. -/
def sendPay (c : Dev nD) (i : Cp) : sProp 𝕄 :=
  owns (Ix := Unit) (Name := ℕ) (U := UU) (Lvl := ℕ) (c : Thread nD τ) (srcM c i) (shr i) (val A B c i)
/-- The destination of `c`'s copy `i`, on its neighbour, at some contents. -/
def dstP (c : Dev nD) (i : Cp) : sProp 𝕄 :=
  iprop(∃ f, (dstM c i).view.loc (nb c (dir i) : Thread nD τ) ↦[(dstM c i).view.set]{fullShare} f)
/-- The copies towards a neighbour. -/
def cls (n : Fin 4) : Finset Cp := Finset.univ.filter fun i => dir i = n
/-- What the signal of `c`'s neighbour `opp n` hands `c`: the destinations of `c`'s copies to it. -/
def barPay (c : Dev nD) (n : Fin 4) : sProp 𝕄 := bigSep (cls (opp n)) (dstP (F := F) c)

instance recvPay_storable (c : Dev nD) (i : Cp) : BI.Storable (upEmb : UEmb _ 𝕄) (recvPay A B c i) := by unfold recvPay; infer_instance
instance sendPay_storable (c : Dev nD) (i : Cp) : BI.Storable (upEmb : UEmb _ 𝕄) (sendPay A B c i) := by unfold sendPay; infer_instance
instance dstP_storable (c : Dev nD) (i : Cp) : BI.Storable (upEmb : UEmb _ 𝕄) (dstP (F := F) c i) := by unfold dstP; infer_instance
instance barPay_storable (c : Dev nD) (n : Fin 4) : BI.Storable (upEmb : UEmb _ 𝕄) (barPay (F := F) c n) := by unfold barPay; infer_instance

/-! ## The schedule -/

/-- One round: a barrier cell has a duty of one unit per neighbour, a departure or arrival cell one duty of the copy's words. -/
def ringRd : Rounds.Schedule (GSem nD τ sig) (Fin 4) 𝕄 where
  duties g r := if r = 0 ∧ g.1.2 = .tc then (match kindOf g.2 with | none => ∅ | some none => Finset.univ | some (some _) => {0}) else ∅
  unitless _ := False
  amount g _ _ := match kindOf g.2 with | some (some x) => amt x.2 | _ => 1
  payload g _ d := match kindOf g.2 with
    | some (some (true, i)) => recvPay A B g.1.1 i
    | some (some (false, i)) => sendPay A B g.1.1 i
    | some none => barPay g.1.1 d
    | none => iprop(emp)
  amount_pos g _ _ _ := by
    rcases kindOf g.2 with _ | _ | ⟨r, i⟩
    · exact Nat.one_pos
    · exact Nat.one_pos
    · exact amt_pos i

instance ringRd_payload_storable (g : GSem nD τ sig) (r : ℕ) (d : Fin 4) :
    BI.Storable (upEmb : UEmb _ 𝕄) ((ringRd A B).payload g r d) := by
  show BI.Storable upEmb (match kindOf g.2 with
    | some (some (true, i)) => recvPay A B g.1.1 i
    | some (some (false, i)) => sendPay A B g.1.1 i
    | some none => barPay g.1.1 d
    | none => iprop(emp))
  split <;> infer_instance

section Sched
variable (c : Dev nD) (i : Cp)

theorem kind_send : kindOf (.dma (sendS i)) = some (some (false, i)) := kindOf_csem (some (false, i))
theorem kind_recv : kindOf (.dma (recvS i)) = some (some (true, i)) := kindOf_csem (some (true, i))

theorem duties_bar : (ringRd A B).duties (barCell c) 0 = Finset.univ := by dsimp only [ringRd]; exact if_pos ⟨rfl, rfl⟩
theorem duties_send : (ringRd A B).duties (sendCell c i) 0 = {0} := by
  dsimp only [ringRd]; rw [if_pos ⟨rfl, rfl⟩, kind_send]
theorem duties_recv : (ringRd A B).duties (recvCell c i) 0 = {0} := by
  dsimp only [ringRd]; rw [if_pos ⟨rfl, rfl⟩, kind_recv]
theorem duties_later (g : GSem nD τ sig) : ∀ r, 1 ≤ r → (ringRd A B).duties g r = ∅ :=
  fun r hr => by dsimp only [ringRd]; rw [if_neg fun h => by omega]

theorem amount_bar (d : Fin 4) : (ringRd A B).amount (barCell c) 0 d = 1 := rfl
theorem amount_send (d : Fin 4) : (ringRd A B).amount (sendCell c i) 0 d = amt i := by dsimp only [ringRd]; rw [kind_send]
theorem amount_recv (d : Fin 4) : (ringRd A B).amount (recvCell c i) 0 d = amt i := by dsimp only [ringRd]; rw [kind_recv]

theorem expect_bar : (ringRd A B).expect (barCell c) 0 = 4 := by
  unfold Schedule.expect Schedule.amountOf
  rw [duties_bar, Finset.sum_congr rfl fun d _ => amount_bar A B c d]; rfl
theorem expect_send : (ringRd A B).expect (sendCell c i) 0 = amt i := by
  unfold Schedule.expect Schedule.amountOf; rw [duties_send, Finset.sum_singleton, amount_send]
theorem expect_recv : (ringRd A B).expect (recvCell c i) 0 = amt i := by
  unfold Schedule.expect Schedule.amountOf; rw [duties_recv, Finset.sum_singleton, amount_recv]

theorem payload_bar (d : Fin 4) : (ringRd A B).payload (barCell c) 0 d = barPay c d := rfl
theorem payload_send (d : Fin 4) : (ringRd A B).payload (sendCell c i) 0 d = sendPay A B c i := by
  dsimp only [ringRd]; rw [kind_send]
theorem payload_recv (d : Fin 4) : (ringRd A B).payload (recvCell c i) 0 d = recvPay A B c i := by
  dsimp only [ringRd]; rw [kind_recv]

theorem rest_send : bigSep ((ringRd A B).duties (sendCell c i) 0 \ ∅) (fun d => (ringRd A B).payload (sendCell c i) 0 d) = sendPay A B c i := by
  rw [Finset.sdiff_empty, duties_send, bigSep_singleton, payload_send]
theorem rest_recv : bigSep ((ringRd A B).duties (recvCell c i) 0 \ ∅) (fun d => (ringRd A B).payload (recvCell c i) 0 d) = recvPay A B c i := by
  rw [Finset.sdiff_empty, duties_recv, bigSep_singleton, payload_recv]

/-- Every copy goes to one neighbour, so the four barrier payloads are the destinations of all copies. -/
theorem rest_bar : bigSep ((ringRd A B).duties (barCell c) 0 \ ∅) (fun d => (ringRd A B).payload (barCell c) 0 d)
    = bigSep Finset.univ (dstP (F := F) c) := by
  rw [Finset.sdiff_empty, duties_bar, show (fun d => (ringRd A B).payload (barCell c) 0 d) = fun d => bigSep (cls (opp d)) (dstP (F := F) c) from rfl,
    ← bigSep_biUnion_eq Finset.univ (fun d => cls (opp d))]
  · congr 1
    ext j
    simp only [Finset.mem_biUnion, Finset.mem_univ, true_and, cls, Finset.mem_filter, iff_true]
    exact ⟨opp (dir j), (opp_opp _).symm⟩
  · intro d _ d' _ hne
    refine Finset.disjoint_left.mpr fun j hj hj' => hne ?_
    simp only [cls, Finset.mem_filter, Finset.mem_univ, true_and] at hj hj'
    rw [← opp_opp d, ← hj, hj', opp_opp]

end Sched
end

/-! ## Levels -/

/-- Arrivals in the order of the phases and their hops. -/
def lev : Cp → ℕ
  | rs1 _ h _ => 2 + h.val
  | rs2 h _ => 10 + h.val
  | ag2 h _ => 14 + h.val
  | ag1 _ h _ => 18 + h.val

theorem lev_pos (i : Cp) : 1 < lev i := by cases i <;> simp only [lev] <;> omega

def L (g : GSem nD τ sig) : Finset Unit := if g.1.2 = .tc then {()} else ∅
/-- A barrier cell at 1, an arrival cell at its copy's place, everything else at 0. -/
def lv (g : GSem nD τ sig) (_ : Unit) : ℕ := match kindOf g.2 with
  | some none => 1
  | some (some (true, i)) => lev i
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c : Dev nD) (i : Cp) : lv (recvCell c i) () = lev i := by dsimp only [lv]; rw [kind_recv]

end Cert.KernelIdeal.Machine
-- ==== Proof.Pieces.lean ====
/- Pieces of the buffers: what owning rows of a matrix or a chunk of a landing buffer means, and the loads and stores
   of one piece. -/
module

public import proofs.«01_k».proof.Proof.Protocol

@[expose] public section

noncomputable section

namespace Cert.KernelIdeal.Machine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 eq_ix2 idx2_lt0 idx2_lt1)
open Cert.KernelIdeal.Gen
open Cp

variable {F : FTy → Type} [FloatOps F]

local notation "𝕄" => MT nD τ sig Unit (Elt F) ℕ UU ℕ

abbrev 𝒱₀ : Variants := Variants.none

/-- A program's weakest precondition on device `c`. -/
abbrev wpc (c : Dev nD) (k : P F) (Q : PUnit → sProp 𝕄) : sProp 𝕄 := wp frame (wpE (defs₀ (F := F)) 𝒱₀ (c : Thread nD τ) none) Set.univ k Q

/-- Owning a memref at what it reads. -/
abbrev own {s : Shape} (c : Dev nD) (M : Memref sig .tc .vmem s .bf16) (q : PosShare TreeShare) (X : s.Idx → Elt F .bf16) : sProp 𝕄 :=
  owns (Ix := Unit) (Name := ℕ) (U := UU) (Lvl := ℕ) (c : Thread nD τ) M q X
/-- Owning a memref at some contents. -/
def anyP {s : Shape} (c : Dev nD) (M : Memref sig .tc .vmem s .bf16) : sProp 𝕄 :=
  iprop(∃ f : Buf (Elt F) (M.view.loc (c : Thread nD τ)), M.view.loc (c : Thread nD τ) ↦[M.view.set]{fullShare} f)

/-- Entries of the partial product's buffer. -/
abbrev pP (c : Dev nD) (S : Finset S1536x1536.Idx) (q : PosShare TreeShare) (X : Mat F 1536 1536) : sProp 𝕄 := pM.view.loc (c : Thread nD τ) ↦[S]{q} X
/-- Entries of the result's buffer. -/
abbrev oP (c : Dev nD) (S : Finset S1536x1536.Idx) (q : PosShare TreeShare) (X : Mat F 1536 1536) : sProp 𝕄 := oM.view.loc (c : Thread nD τ) ↦[S]{q} X
/-- The first operand's buffer. -/
abbrev aP (c : Dev nD) (X : Mat F 1536 768) : sProp 𝕄 := aM.view.loc (c : Thread nD τ) ↦[Finset.univ]{fullShare} X

theorem read_inj {s : Shape} (v : View sig .tc .vmem s .bf16) {f g : v.ty.Contents (Elt F)} (h : v.read (Elt F) f = v.read (Elt F) g) :
    ∀ i ∈ v.set, f i = g i := by
  intro i hi
  obtain ⟨x, -, rfl⟩ := Finset.mem_map.mp hi
  have hx := congrFun h x
  rw [View.read_apply, View.read_apply] at hx
  exact (cast_inj _).mp hx

theorem own_read {s : Shape} (c : Dev nD) (M : Memref sig .tc .vmem s .bf16) (q : PosShare TreeShare) (X : Buf (Elt F) (M.view.loc (c : Thread nD τ))) :
    own c M q (M.view.read (Elt F) X) = (M.view.loc (c : Thread nD τ) ↦[M.view.set]{q} X : sProp 𝕄) := by
  have h1 : own c M q (M.view.read (Elt F) X) ⊢ (M.view.loc (c : Thread nD τ) ↦[M.view.set]{q} X : sProp 𝕄) := by
    unfold own owns
    iintro ⟨%f, %hf, H⟩
    iapply (Entails.of_eq (pointsTo_congr (read_inj M.view hf))) $$ H
  exact BI.equiv_iff.mp ⟨h1, owns_intro (c : Thread nD τ) M q X⟩

theorem own_any {s : Shape} (c : Dev nD) (M : Memref sig .tc .vmem s .bf16) (X : s.Idx → Elt F .bf16) :
    own c M fullShare X ⊢ anyP (F := F) c M := by
  unfold own owns anyP
  iintro ⟨%f, -, H⟩
  iexists f; iexact H

/-! ## Rows -/

section Rows
variable {n a : Nat} {off : Fin 2 → Nat}

theorem read_pslice (h : ∀ x, off x + (![n, 1536] : Fin 2 → Nat) x ≤ S1536x1536.size x) (e : off = ![a, 0]) (X : Mat F 1536 1536) :
    ((pM.access (Rect.unit (s := S1536x1536) off ![n, 1536] h) : View sig .tc _ _ _)).read (Elt F) X = rows n X a :=
  funext fun j => congrArg X (emb_rows off h e j)
theorem read_oslice (h : ∀ x, off x + (![n, 1536] : Fin 2 → Nat) x ≤ S1536x1536.size x) (e : off = ![a, 0]) (X : Mat F 1536 1536) :
    ((oM.access (Rect.unit (s := S1536x1536) off ![n, 1536] h) : View sig .tc _ _ _)).read (Elt F) X = rows n X a :=
  funext fun j => congrArg X (emb_rows off h e j)

theorem set_pslice (h : ∀ x, off x + (![n, 1536] : Fin 2 → Nat) x ≤ S1536x1536.size x) (e : off = ![a, 0]) :
    ((pM.access (Rect.unit (s := S1536x1536) off ![n, 1536] h) : View sig .tc _ _ _)).set = rowSet a n :=
  (View.set_slice_whole cc0_scratch0 _).trans (set_rows off h e)
theorem set_oslice (h : ∀ x, off x + (![n, 1536] : Fin 2 → Nat) x ≤ S1536x1536.size x) (e : off = ![a, 0]) :
    ((oM.access (Rect.unit (s := S1536x1536) off ![n, 1536] h) : View sig .tc _ _ _)).set = rowSet a n :=
  (View.set_slice_whole cc0_stg2_0 _).trans (set_rows off h e)

theorem own_pslice (c : Dev nD) (q : PosShare TreeShare) (h : ∀ x, off x + (![n, 1536] : Fin 2 → Nat) x ≤ S1536x1536.size x)
    (hs : ∀ x, (Rect.unit (s := S1536x1536) off ![n, 1536] h).stride x = 1) (e : off = ![a, 0]) (X : Mat F 1536 1536) :
    own c (pM.slice (Rect.unit (s := S1536x1536) off ![n, 1536] h) hs) q (rows n X a) = pP c (rowSet a n) q X := by
  rw [← read_pslice h e X]
  refine (own_read c (pM.slice (Rect.unit (s := S1536x1536) off ![n, 1536] h) hs) q X).trans ?_
  exact congrArg (fun S => pP c S q X) (set_pslice h e)
theorem own_oslice (c : Dev nD) (q : PosShare TreeShare) (h : ∀ x, off x + (![n, 1536] : Fin 2 → Nat) x ≤ S1536x1536.size x)
    (hs : ∀ x, (Rect.unit (s := S1536x1536) off ![n, 1536] h).stride x = 1) (e : off = ![a, 0]) (X : Mat F 1536 1536) :
    own c (oM.slice (Rect.unit (s := S1536x1536) off ![n, 1536] h) hs) q (rows n X a) = oP c (rowSet a n) q X := by
  rw [← read_oslice h e X]
  refine (own_read c (oM.slice (Rect.unit (s := S1536x1536) off ![n, 1536] h) hs) q X).trans ?_
  exact congrArg (fun S => oP c S q X) (set_oslice h e)
theorem any_oslice (c : Dev nD) (h : ∀ x, off x + (![n, 1536] : Fin 2 → Nat) x ≤ S1536x1536.size x)
    (hs : ∀ x, (Rect.unit (s := S1536x1536) off ![n, 1536] h).stride x = 1) (e : off = ![a, 0]) :
    anyP (F := F) c (oM.slice (Rect.unit (s := S1536x1536) off ![n, 1536] h) hs) = iprop(∃ X : Mat F 1536 1536, oP c (rowSet a n) fullShare X) :=
  congrArg (fun S => iprop(∃ X : Mat F 1536 1536, oP c S fullShare X)) (set_oslice h e)

/-- A load of rows of the partial product. -/
theorem wp_load_p (c : Dev nD) (q : PosShare TreeShare) (h : ∀ x, off x + (![n, 1536] : Fin 2 → Nat) x ≤ S1536x1536.size x) (e : off = ![a, 0])
    (X : Mat F 1536 1536) {hl : pM.view.LoadsAt (Rect.unit (s := S1536x1536) off ![n, 1536] h).toLoadRect}
    {k : ((Rect.unit (s := S1536x1536) off ![n, 1536] h).toLoadRect.shape.Idx → Elt F .bf16) → P F} {Q : PUnit → sProp 𝕄} :
    pP c (rowSet a n) q X ⊢ iprop((pP c (rowSet a n) q X -∗ wpc c (k (rows n X a)) Q)
      -∗ wpc c (.op (.load pM (Rect.unit (s := S1536x1536) off ![n, 1536] h).toLoadRect hl) k) Q) := by
  have hw := wp_load (Γ := PendingWaitsCtx.empty) (Ix := Unit) (Name := ℕ) (U := UU) (Lvl := ℕ) (defs := defs₀ (F := F)) (Q := Q) 𝒱₀ (c : Thread nD τ) none Set.univ (m := pM)
    (r := (Rect.unit (s := S1536x1536) off ![n, 1536] h).toLoadRect) (hl := hl) (k := k) (S := rowSet a n) (q := q) (f := X)
    (by rw [← set_pslice h e]; exact le_of_eq (View.set_slice _ _).symm)
  rw [View.readAt_rect, show (pM.view.slice (Rect.unit (s := S1536x1536) off ![n, 1536] h)).read (Elt F) X = rows n X a from read_pslice h e X] at hw
  exact hw
/-- A load of rows of the result. -/
theorem wp_load_o (c : Dev nD) (q : PosShare TreeShare) (h : ∀ x, off x + (![n, 1536] : Fin 2 → Nat) x ≤ S1536x1536.size x) (e : off = ![a, 0])
    (X : Mat F 1536 1536) {hl : oM.view.LoadsAt (Rect.unit (s := S1536x1536) off ![n, 1536] h).toLoadRect}
    {k : ((Rect.unit (s := S1536x1536) off ![n, 1536] h).toLoadRect.shape.Idx → Elt F .bf16) → P F} {Q : PUnit → sProp 𝕄} :
    oP c (rowSet a n) q X ⊢ iprop((oP c (rowSet a n) q X -∗ wpc c (k (rows n X a)) Q)
      -∗ wpc c (.op (.load oM (Rect.unit (s := S1536x1536) off ![n, 1536] h).toLoadRect hl) k) Q) := by
  have hw := wp_load (Γ := PendingWaitsCtx.empty) (Ix := Unit) (Name := ℕ) (U := UU) (Lvl := ℕ) (defs := defs₀ (F := F)) (Q := Q) 𝒱₀ (c : Thread nD τ) none Set.univ (m := oM)
    (r := (Rect.unit (s := S1536x1536) off ![n, 1536] h).toLoadRect) (hl := hl) (k := k) (S := rowSet a n) (q := q) (f := X)
    (by rw [← set_oslice h e]; exact le_of_eq (View.set_slice _ _).symm)
  rw [View.readAt_rect, show (oM.view.slice (Rect.unit (s := S1536x1536) off ![n, 1536] h)).read (Elt F) X = rows n X a from read_oslice h e X] at hw
  exact hw
/-- A store of rows of the partial product. -/
theorem wp_store_p (c : Dev nD) (h : ∀ x, off x + (![n, 1536] : Fin 2 → Nat) x ≤ S1536x1536.size x) (e : off = ![a, 0])
    (f X : Mat F 1536 1536) (w : Mat F n 1536) (hX : rows n X a = w)
    {hx : (pM.access (Rect.unit (s := S1536x1536) off ![n, 1536] h)).Stores Finset.univ} {hm} {k : PUnit → P F} {Q : PUnit → sProp 𝕄} :
    pP c (rowSet a n) fullShare f ⊢ iprop((pP c (rowSet a n) fullShare X -∗ wpc c (k ⟨⟩) Q)
      -∗ wpc c (.op (.store pM (Rect.unit (s := S1536x1536) off ![n, 1536] h) w Finset.univ hx hm) k) Q) := by
  have hw := wp_store (Γ := PendingWaitsCtx.empty) (Ix := Unit) (Name := ℕ) (U := UU) (Lvl := ℕ) (defs := defs₀ (F := F)) (Q := Q) 𝒱₀ (c : Thread nD τ) none Set.univ (m := pM)
    (r := Rect.unit (s := S1536x1536) off ![n, 1536] h) (w := w) (Mk := Finset.univ) (hx := hx) (hm := hm) (k := k) (S := rowSet a n) (f := f)
    (by rw [← set_pslice h e]; exact le_of_eq rfl)
  refine hw.trans (wand_mono_left (wand_mono_left (Entails.of_eq (pointsTo_congr ?_).symm)))
  rw [← set_pslice h e]
  refine read_inj (pM.access (Rect.unit (s := S1536x1536) off ![n, 1536] h)) ?_
  rw [View.read_write_univ, read_pslice h e X, hX]
/-- A store of rows of the result. -/
theorem wp_store_o (c : Dev nD) (h : ∀ x, off x + (![n, 1536] : Fin 2 → Nat) x ≤ S1536x1536.size x) (e : off = ![a, 0])
    (f X : Mat F 1536 1536) (w : Mat F n 1536) (hX : rows n X a = w)
    {hx : (oM.access (Rect.unit (s := S1536x1536) off ![n, 1536] h)).Stores Finset.univ} {hm} {k : PUnit → P F} {Q : PUnit → sProp 𝕄} :
    oP c (rowSet a n) fullShare f ⊢ iprop((oP c (rowSet a n) fullShare X -∗ wpc c (k ⟨⟩) Q)
      -∗ wpc c (.op (.store oM (Rect.unit (s := S1536x1536) off ![n, 1536] h) w Finset.univ hx hm) k) Q) := by
  have hw := wp_store (Γ := PendingWaitsCtx.empty) (Ix := Unit) (Name := ℕ) (U := UU) (Lvl := ℕ) (defs := defs₀ (F := F)) (Q := Q) 𝒱₀ (c : Thread nD τ) none Set.univ (m := oM)
    (r := Rect.unit (s := S1536x1536) off ![n, 1536] h) (w := w) (Mk := Finset.univ) (hx := hx) (hm := hm) (k := k) (S := rowSet a n) (f := f)
    (by rw [← set_oslice h e]; exact le_of_eq rfl)
  refine hw.trans (wand_mono_left (wand_mono_left (Entails.of_eq (pointsTo_congr ?_).symm)))
  rw [← set_oslice h e]
  refine read_inj (oM.access (Rect.unit (s := S1536x1536) off ![n, 1536] h)) ?_
  rw [View.read_write_univ, read_oslice h e X, hX]
/-- A load of a slab of the first operand. -/
theorem wp_load_a (c : Dev nD) (h : ∀ x, off x + S192x768.size x ≤ S1536x768.size x) (e : off = ![a, 0])
    (X : Mat F 1536 768) {hl : aM.view.LoadsAt (Rect.unit (s := S1536x768) off S192x768.size h).toLoadRect}
    {k : ((Rect.unit (s := S1536x768) off S192x768.size h).toLoadRect.shape.Idx → Elt F .bf16) → P F} {Q : PUnit → sProp 𝕄} :
    aP c X ⊢ iprop((aP c X -∗ wpc c (k (rows 192 X a)) Q)
      -∗ wpc c (.op (.load aM (Rect.unit (s := S1536x768) off S192x768.size h).toLoadRect hl) k) Q) := by
  have hw := wp_load (Γ := PendingWaitsCtx.empty) (Ix := Unit) (Name := ℕ) (U := UU) (Lvl := ℕ) (defs := defs₀ (F := F)) (Q := Q) 𝒱₀ (c : Thread nD τ) none Set.univ (m := aM)
    (r := (Rect.unit (s := S1536x768) off S192x768.size h).toLoadRect) (hl := hl) (k := k) (S := Finset.univ) (q := fullShare) (f := X)
    (Finset.subset_univ _)
  rw [View.readAt_rect, show (aM.view.slice (Rect.unit (s := S1536x768) off S192x768.size h)).read (Elt F) X = rows 192 X a from
    funext fun j => congrArg X (emb_rows off h e j)] at hw
  exact hw

end Rows

/-! ## Chunks of the landing buffers -/

/-- A view of a chunk as a matrix reads the chunk. -/
theorem wp_load_r (c : Dev nD) (b : Bool) (h : Fin 7) (u : Fin 3) (X : Mat F 32 1536) {hl : (rM b).view.LoadsAt (rect1 h u).toLoadRect}
    {k : (S1x1x32x1536.Idx → Elt F .bf16) → P F} {Q : PUnit → sProp 𝕄} :
    own c (rC b h u) fullShare X ⊢ iprop((own c (rC b h u) fullShare X -∗ wpc c (k (shapeCast S1x1x32x1536 X shapeCasts_S32x1536_S1x1x32x1536)) Q)
      -∗ wpc c (.op (.load (rM b) (rect1 h u).toLoadRect hl) k) Q) := by
  unfold own owns
  iintro ⟨%f, %hf, H⟩ Hk
  have hv : (rM b).view.readAt (Elt F) (rect1 h u).toLoadRect f = shapeCast S1x1x32x1536 X shapeCasts_S32x1536_S1x1x32x1536 := by
    rw [← hf, View.readAt_rect]
    exact (shapeCast_shapeCast (((rM b).view.slice (rect1 h u)).read (Elt F) f) squeezes_S1x1x32x1536_S32x1536.numel_eq shapeCasts_S32x1536_S1x1x32x1536).symm
  iapply (wp_load 𝒱₀ (c : Thread nD τ) none Set.univ (m := rM b) (S := (rC b h u).view.set)
    (le_of_eq ((View.set_reshape _ _).trans (View.set_slice _ _)).symm)) $$ H
  iintro H
  rw [hv]
  iapply Hk
  iexists f
  isplitr; · ipureintro; exact hf
  iexact H
theorem wp_store_r (c : Dev nD) (b : Bool) (h : Fin 7) (u : Fin 3) (X Y : Mat F 32 1536) {hx : ((rM b).access (rect1 h u)).Stores Finset.univ} {hm}
    {k : PUnit → P F} {Q : PUnit → sProp 𝕄} :
    own c (rC b h u) fullShare X ⊢ iprop((own c (rC b h u) fullShare Y -∗ wpc c (k ⟨⟩) Q)
      -∗ wpc c (.op (.store (rM b) (rect1 h u) (shapeCast S1x1x32x1536 Y shapeCasts_S32x1536_S1x1x32x1536) Finset.univ hx hm) k) Q) := by
  unfold own owns
  iintro ⟨%f, %hf, H⟩ Hk
  iapply (wp_store 𝒱₀ (c : Thread nD τ) none Set.univ (m := rM b) (r := rect1 h u) (Mk := Finset.univ) (S := (rC b h u).view.set)
    (le_of_eq (View.set_reshape _ _).symm)) $$ H
  iintro H
  iapply Hk
  iexists ((rM b).access (rect1 h u)).write (Elt F) f (shapeCast S1x1x32x1536 Y shapeCasts_S32x1536_S1x1x32x1536) Finset.univ
  isplitr
  · ipureintro
    show shapeCast S32x1536 (((rM b).access (rect1 h u)).read (Elt F) (((rM b).access (rect1 h u)).write (Elt F) f _ Finset.univ)) squeezes_S1x1x32x1536_S32x1536.numel_eq = Y
    rw [View.read_write_univ]
    exact shapeCast_shapeCast Y shapeCasts_S32x1536_S1x1x32x1536 squeezes_S1x1x32x1536_S32x1536.numel_eq
  iexact H
theorem wp_load_r2 (c : Dev nD) (h t : Fin 3) (X : Mat F 16 1536) {hl : r2M.view.LoadsAt (rect2 h t).toLoadRect}
    {k : (S1x1x16x1536.Idx → Elt F .bf16) → P F} {Q : PUnit → sProp 𝕄} :
    own c (r2C h t) fullShare X ⊢ iprop((own c (r2C h t) fullShare X -∗ wpc c (k (shapeCast S1x1x16x1536 X shapeCasts_S16x1536_S1x1x16x1536)) Q)
      -∗ wpc c (.op (.load r2M (rect2 h t).toLoadRect hl) k) Q) := by
  unfold own owns
  iintro ⟨%f, %hf, H⟩ Hk
  have hv : r2M.view.readAt (Elt F) (rect2 h t).toLoadRect f = shapeCast S1x1x16x1536 X shapeCasts_S16x1536_S1x1x16x1536 := by
    rw [← hf, View.readAt_rect]
    exact (shapeCast_shapeCast ((r2M.view.slice (rect2 h t)).read (Elt F) f) squeezes_S1x1x16x1536_S16x1536.numel_eq shapeCasts_S16x1536_S1x1x16x1536).symm
  iapply (wp_load 𝒱₀ (c : Thread nD τ) none Set.univ (m := r2M) (S := (r2C h t).view.set)
    (le_of_eq ((View.set_reshape _ _).trans (View.set_slice _ _)).symm)) $$ H
  iintro H
  rw [hv]
  iapply Hk
  iexists f
  isplitr; · ipureintro; exact hf
  iexact H
theorem wp_store_r2 (c : Dev nD) (h t : Fin 3) (X Y : Mat F 16 1536) {hx : (r2M.access (rect2 h t)).Stores Finset.univ} {hm}
    {k : PUnit → P F} {Q : PUnit → sProp 𝕄} :
    own c (r2C h t) fullShare X ⊢ iprop((own c (r2C h t) fullShare Y -∗ wpc c (k ⟨⟩) Q)
      -∗ wpc c (.op (.store r2M (rect2 h t) (shapeCast S1x1x16x1536 Y shapeCasts_S16x1536_S1x1x16x1536) Finset.univ hx hm) k) Q) := by
  unfold own owns
  iintro ⟨%f, %hf, H⟩ Hk
  iapply (wp_store 𝒱₀ (c : Thread nD τ) none Set.univ (m := r2M) (r := rect2 h t) (Mk := Finset.univ) (S := (r2C h t).view.set)
    (le_of_eq (View.set_reshape _ _).symm)) $$ H
  iintro H
  iapply Hk
  iexists (r2M.access (rect2 h t)).write (Elt F) f (shapeCast S1x1x16x1536 Y shapeCasts_S16x1536_S1x1x16x1536) Finset.univ
  isplitr
  · ipureintro
    show shapeCast S16x1536 ((r2M.access (rect2 h t)).read (Elt F) ((r2M.access (rect2 h t)).write (Elt F) f _ Finset.univ)) squeezes_S1x1x16x1536_S16x1536.numel_eq = Y
    rw [View.read_write_univ]
    exact shapeCast_shapeCast Y shapeCasts_S16x1536_S1x1x16x1536 squeezes_S1x1x16x1536_S16x1536.numel_eq
  iexact H

end Cert.KernelIdeal.Machine
-- ==== Proof.Res.lean ====
/- What a device holds while it runs, as named resources, and a state of the run as a set of names. -/
module

public import proofs.«01_k».proof.Proof.Pieces
public import Idealize.ShloMosaic.Lib.Pipeline.BigSepL

@[expose] public section

noncomputable section

namespace Cert.KernelIdeal.Machine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen
open Cp

variable {F : FTy → Type} [FloatOps F]

local notation "𝕄" => MT nD τ sig Unit (Elt F) ℕ UU ℕ

/-! ## Rows cut into equal runs -/

/-- The runs of `n` rows from `g j` make up rows `a ..< a + m`, without overlap. -/
structure Tiling {ι : Type} (a m n : Nat) (g : ι → Nat) : Prop where
  inside : ∀ j, a ≤ g j ∧ g j + n ≤ a + m
  cover : ∀ r, a ≤ r → r < a + m → ∃ j, g j ≤ r ∧ r < g j + n
  apart : ∀ j j', j ≠ j' → g j + n ≤ g j' ∨ g j' + n ≤ g j

namespace Tiling
variable {ι : Type} [Fintype ι] {a m n : Nat} {g : ι → Nat}

theorem union (T : Tiling a m n g) : Finset.univ.biUnion (fun j => rowSet (g j) n) = rowSet a m := by
  ext i
  simp only [Finset.mem_biUnion, Finset.mem_univ, true_and, mem_rowSet]
  constructor
  · rintro ⟨j, h1, h2⟩; have := T.inside j; omega
  · rintro ⟨h1, h2⟩; exact T.cover _ h1 h2
theorem disjoint (T : Tiling a m n g) : ∀ j ∈ (Finset.univ : Finset ι), ∀ j' ∈ (Finset.univ : Finset ι), j ≠ j' → Disjoint (rowSet (g j) n) (rowSet (g j') n) := by
  intro j _ j' _ hne
  refine Finset.disjoint_left.mpr fun i hi hi' => ?_
  rw [mem_rowSet] at hi hi'
  rcases T.apart j j' hne with h | h <;> omega

variable {c : Dev nD} {q : PosShare TreeShare}

theorem p_eq (T : Tiling a m n g) (X : Mat F 1536 1536) : pP c (rowSet a m) q X = bigSep Finset.univ fun j => pP c (rowSet (g j) n) q X := by
  rw [← T.union]; exact pointsTo_biUnion _ _ T.disjoint
theorem o_eq (T : Tiling a m n g) (X : Mat F 1536 1536) : oP c (rowSet a m) q X = bigSep Finset.univ fun j => oP c (rowSet (g j) n) q X := by
  rw [← T.union]; exact pointsTo_biUnion _ _ T.disjoint
theorem p_cut (T : Tiling a m n g) : iprop(∃ X : Mat F 1536 1536, pP c (rowSet a m) q X) ⊢ bigSep Finset.univ fun j => iprop(∃ X : Mat F 1536 1536, pP c (rowSet (g j) n) q X) := by
  have h (X : Mat F 1536 1536) (j : ι) : (pP c (rowSet (g j) n) q X : sProp 𝕄) ⊢ iprop(∃ X : Mat F 1536 1536, pP c (rowSet (g j) n) q X) := by
    iintro H; iexists X; iexact H
  iintro ⟨%X, H⟩
  iapply ((Entails.of_eq (T.p_eq X)).trans (bigSep_mono fun j _ => h X j)) $$ H
theorem o_cut (T : Tiling a m n g) : iprop(∃ X : Mat F 1536 1536, oP c (rowSet a m) q X) ⊢ bigSep Finset.univ fun j => iprop(∃ X : Mat F 1536 1536, oP c (rowSet (g j) n) q X) := by
  have h (X : Mat F 1536 1536) (j : ι) : (oP c (rowSet (g j) n) q X : sProp 𝕄) ⊢ iprop(∃ X : Mat F 1536 1536, oP c (rowSet (g j) n) q X) := by
    iintro H; iexists X; iexact H
  iintro ⟨%X, H⟩
  iapply ((Entails.of_eq (T.o_eq X)).trans (bigSep_mono fun j _ => h X j)) $$ H
theorem p_join (T : Tiling a m n g) : (bigSep Finset.univ fun j => iprop(∃ X : Mat F 1536 1536, pP c (rowSet (g j) n) q X)) ⊢ iprop(∃ X : Mat F 1536 1536, pP c (rowSet a m) q X) := by
  classical
  let z : Mat F 1536 1536 := constant _ .bf16 0#16
  haveI : Nonempty (Mat F 1536 1536) := ⟨z⟩
  have h (fs : ι → Mat F 1536 1536) : (bigSep Finset.univ fun j => pP c (rowSet (g j) n) q (fs j)) ⊢ iprop(∃ X : Mat F 1536 1536, pP c (rowSet a m) q X) := by
    rw [← T.union]
    iintro H
    ihave Hj := (pointsTo_biUnion_join (ℓ := pM.view.loc (c : Thread nD τ)) (q := q) Finset.univ (fun j => rowSet (g j) n) fs z T.disjoint) $$ H
    icases Hj with ⟨%X, -, H⟩
    iexists X
    iexact H
  exact (bigSep_exists_pi Finset.univ _).trans (exists_elim h)

end Tiling

/-! ## The names -/

/-- The slab that hop `h` of a ring of eight moves. -/
abbrev ddF (b : Bool) (h : Fin 7) : Fin 8 := ⟨dd b h.val, by have := h.isLt; cases b <;> simp only [dd, cond] <;> omega⟩
/-- The quarter that hop `h` of the second all-gather moves out, and the one it brings. -/
abbrev seF (h : Fin 3) : Fin 4 := ⟨(4 - h.val) % 4, Nat.mod_lt _ (by decide)⟩
abbrev inF (h : Fin 3) : Fin 4 := ⟨3 - h.val, by omega⟩

/-- What a device may hold. -/
inductive Res
  /-- A chunk of a landing buffer after the own product was added. -/
  | acc (i : Cp)
  /-- A copy that has landed. -/
  | land (i : Cp)
  /-- The destination of an own copy. -/
  | dst (i : Cp)
  /-- The place a copy of a neighbour goes to. -/
  | mine (i : Cp)
  /-- The right to send a copy. -/
  | stok (i : Cp)
  /-- A sent copy, not yet waited for. -/
  | fly (i : Cp)
  /-- The right to wait for an arrival. -/
  | rtok (i : Cp)
  /-- A semaphore at zero. -/
  | zero (r : Bool) (i : Cp)
  /-- A slab of the partial product, before it is computed. -/
  | pA (d : Fin 8)
  /-- A chunk of the partial product. -/
  | pC (d : Fin 8) (b : Bool) (u : Fin 3)
  /-- A chunk of the own slab after the first reduce-scatter; the same rows in quarters. -/
  | pD (b : Bool) (u : Fin 3)
  | p16 (s : Fin 4) (t : Fin 3)
  /-- Rows of the result, before they are computed. -/
  | oA (t : Fin 3)
  /-- Rows of the own slab of the result, in quarters: one half share and the other. -/
  | oL (s : Fin 4) (t : Fin 3)
  | oR (s : Fin 4) (t : Fin 3)
  /-- The own slab's other half share in chunks; a chunk of another slab of the result. -/
  | oQ (b : Bool) (u : Fin 3)
  | o32 (d : Fin 8) (b : Bool) (u : Fin 3)
  /-- The right to signal a neighbour; to wait on the barrier; the barrier at zero. -/
  | btok (n : Fin 4)
  | bwt
  | bz
  /-- The first operand. -/
  | xa
  deriving DecidableEq

open Res

/-- A copy's number. -/
def cpn : Cp → Nat
  | rs1 b h u => cond b 21 0 + (3 * h.val + u.val)
  | rs2 h t => 42 + (3 * h.val + t.val)
  | ag2 h t => 51 + (3 * h.val + t.val)
  | ag1 b h u => 60 + (cond b 21 0 + (3 * h.val + u.val))

/-- A resource's number. -/
def code : Res → Nat
  | acc i => cpn i
  | land i => 102 + cpn i
  | dst i => 204 + cpn i
  | mine i => 306 + cpn i
  | stok i => 408 + cpn i
  | fly i => 510 + cpn i
  | rtok i => 612 + cpn i
  | zero r i => 714 + (cond r 102 0 + cpn i)
  | pA d => 918 + d.val
  | pC d b u => 926 + (6 * d.val + (cond b 3 0 + u.val))
  | pD b u => 974 + (cond b 3 0 + u.val)
  | p16 s t => 980 + (3 * s.val + t.val)
  | oA t => 992 + t.val
  | oL s t => 995 + (3 * s.val + t.val)
  | oR s t => 1007 + (3 * s.val + t.val)
  | oQ b u => 1019 + (cond b 3 0 + u.val)
  | o32 d b u => 1025 + (6 * d.val + (cond b 3 0 + u.val))
  | btok n => 1073 + n.val
  | bwt => 1077
  | bz => 1078
  | xa => 1079

/-- The copy of a number. -/
def uncpn (n : Nat) : Cp :=
  if n < 42 then rs1 (decide (21 ≤ n)) (m7 n) (l3 n)
  else if n < 51 then rs2 (m3 (n - 42)) (l3 n)
  else if n < 60 then ag2 (m3 (n - 51)) (l3 n)
  else ag1 (decide (81 ≤ n)) (m7 (n - 60)) (l3 n)

theorem uncpn_cpn (i : Cp) : uncpn (cpn i) = i := by
  rcases i with ⟨b, h, u⟩ | ⟨h, u⟩ | ⟨h, u⟩ | ⟨b, h, u⟩ <;> revert h u <;> (try revert b) <;> decide +kernel
theorem cpn_lt (i : Cp) : cpn i < 102 := by
  rcases i with ⟨b, h, u⟩ | ⟨h, u⟩ | ⟨h, u⟩ | ⟨b, h, u⟩ <;> revert h u <;> (try revert b) <;> decide +kernel

/-- The place of a slab or a quarter in a number. -/
def d8 (n : Nat) : Fin 8 := ⟨(n / 6) % 8, Nat.mod_lt _ (by decide)⟩
def h2 (n : Nat) : Bool := decide (3 ≤ n % 6)
def q4 (n : Nat) : Fin 4 := ⟨(n / 3) % 4, Nat.mod_lt _ (by decide)⟩

/-- The resource of a number that is no copy's. -/
def uncodeHi (n : Nat) : Res :=
  if n < 926 then pA ⟨(n - 918) % 8, Nat.mod_lt _ (by decide)⟩
  else if n < 974 then pC (d8 (n - 926)) (h2 (n - 926)) (l3 (n - 926))
  else if n < 980 then pD (h2 (n - 974)) (l3 (n - 974))
  else if n < 992 then p16 (q4 (n - 980)) (l3 (n - 980))
  else if n < 995 then oA (l3 (n - 992))
  else if n < 1007 then oL (q4 (n - 995)) (l3 (n - 995))
  else if n < 1019 then oR (q4 (n - 1007)) (l3 (n - 1007))
  else if n < 1025 then oQ (h2 (n - 1019)) (l3 (n - 1019))
  else if n < 1073 then o32 (d8 (n - 1025)) (h2 (n - 1025)) (l3 (n - 1025))
  else if n < 1077 then btok ⟨(n - 1073) % 4, Nat.mod_lt _ (by decide)⟩
  else if n = 1077 then bwt else if n = 1078 then bz else xa
/-- The copies' resources, by kind. -/
def uncodeLo : Nat → Cp → Res
  | 0, i => acc i
  | 1, i => land i
  | 2, i => dst i
  | 3, i => mine i
  | 4, i => stok i
  | 5, i => fly i
  | 6, i => rtok i
  | 7, i => zero false i
  | _, i => zero true i
/-- The resource of a number. -/
def uncode (n : Nat) : Res := if 918 ≤ n then uncodeHi n else uncodeLo (n / 102) (uncpn (n % 102))

theorem uncode_lo (k : Nat) (hk : k < 9) (i : Cp) (n : Nat) (hn : n = 102 * k + cpn i) : uncode n = uncodeLo k i := by
  have := cpn_lt i
  have h1 : n / 102 = k := by omega
  have h2 : n % 102 = cpn i := by omega
  unfold uncode
  rw [if_neg (by omega), h1, h2, uncpn_cpn]

theorem uncode_code : ∀ r, uncode (code r) = r := by
  intro r
  cases r with
  | acc i => exact uncode_lo 0 (by decide) i _ (by simp only [code]; omega)
  | land i => exact uncode_lo 1 (by decide) i _ rfl
  | dst i => exact uncode_lo 2 (by decide) i _ rfl
  | mine i => exact uncode_lo 3 (by decide) i _ rfl
  | stok i => exact uncode_lo 4 (by decide) i _ rfl
  | fly i => exact uncode_lo 5 (by decide) i _ rfl
  | rtok i => exact uncode_lo 6 (by decide) i _ rfl
  | zero r i =>
    cases r
    · exact uncode_lo 7 (by decide) i _ (by simp only [code, cond]; omega)
    · exact uncode_lo 8 (by decide) i _ (by simp only [code, cond]; omega)
  | pA d => revert d; decide +kernel
  | pC d b u => revert d b u; decide +kernel
  | pD b u => revert b u; decide +kernel
  | p16 s t => revert s t; decide +kernel
  | oA t => revert t; decide +kernel
  | oL s t => revert s t; decide +kernel
  | oR s t => revert s t; decide +kernel
  | oQ b u => revert b u; decide +kernel
  | o32 d b u => revert d b u; decide +kernel
  | btok n => revert n; decide +kernel
  | bwt => decide +kernel
  | bz => decide +kernel
  | xa => decide +kernel

theorem code_injective : Function.Injective code := Function.LeftInverse.injective uncode_code

theorem code_lt (r : Res) : code r < 1080 := by
  cases r <;> simp only [code] <;> first | (rename_i i; have := cpn_lt i; omega) | (rename_i r i; have := cpn_lt i; cases r <;> simp only [cond] <;> omega) | skip
  all_goals first | omega | (rename_i b u; have := u.isLt; cases b <;> simp only [cond] <;> omega) | (rename_i d b u; have := u.isLt; cases b <;> simp only [cond] <;> omega)

instance : Fintype Res := Fintype.ofInjective (fun r => (⟨code r, code_lt r⟩ : Fin 1080)) fun _ _ h => code_injective (Fin.mk.inj h)

/-! ## States -/

/-- Whether a state holds a resource. -/
abbrev has (S : Nat) (r : Res) : Bool := S.testBit (code r)
/-- Remove resources from a state that holds them. -/
def take : Nat → List Res → Option Nat
  | S, [] => some S
  | S, r :: l => match has S r with
    | true => take (S ^^^ 2 ^ code r) l
    | false => none
/-- Add resources to a state. -/
def put : Nat → List Res → Nat
  | S, [] => S
  | S, r :: l => put (S ||| 2 ^ code r) l

section States
/-- Everything in a state. -/
def St (R : Res → sProp 𝕄) (S : Nat) : sProp 𝕄 := bigSep (Finset.univ.filter fun r => has S r = true) R

theorem St_take1 (R : Res → sProp 𝕄) (S : Nat) (r : Res) (h : has S r = true) : St R S ⊢ iprop(R r ∗ St R (S ^^^ 2 ^ code r)) := by
  have e : (Finset.univ.filter fun x => has S x = true) = insert r (Finset.univ.filter fun x => has (S ^^^ 2 ^ code r) x = true) := by
    ext x
    simp only [Finset.mem_filter, Finset.mem_univ, _root_.true_and, Finset.mem_insert, has, Nat.testBit_xor, Nat.testBit_two_pow]
    by_cases hx : x = r
    · subst hx; simp [h]
    · have : code r ≠ code x := fun he => hx (code_injective he).symm
      simp [hx, this]
  have hn : r ∉ (Finset.univ.filter fun x => has (S ^^^ 2 ^ code r) x = true) := by
    simp only [Finset.mem_filter, Finset.mem_univ, _root_.true_and, has, Nat.testBit_xor, Nat.testBit_two_pow]
    simp [h]
  unfold St
  rw [e, bigSep_insert hn]
  exact .rfl

theorem St_put1 (R : Res → sProp 𝕄) (S : Nat) (r : Res) : iprop(R r ∗ St R S) ⊢ St R (S ||| 2 ^ code r) := by
  by_cases h : has S r = true
  · have e : (Finset.univ.filter fun x => has (S ||| 2 ^ code r) x = true) = (Finset.univ.filter fun x => has S x = true) := by
      ext x
      simp only [Finset.mem_filter, Finset.mem_univ, _root_.true_and, has, Nat.testBit_or, Nat.testBit_two_pow, Bool.or_eq_true, decide_eq_true_eq]
      refine ⟨fun hx => hx.elim id fun hx => ?_, Or.inl⟩
      rw [← hx]; exact h
    unfold St
    rw [e]
    iintro ⟨-, H⟩; iexact H
  · have e : (Finset.univ.filter fun x => has (S ||| 2 ^ code r) x = true) = insert r (Finset.univ.filter fun x => has S x = true) := by
      ext x
      simp only [Finset.mem_filter, Finset.mem_univ, _root_.true_and, has, Nat.testBit_or, Nat.testBit_two_pow, Bool.or_eq_true, decide_eq_true_eq, Finset.mem_insert]
      rw [_root_.or_comm]
      exact _root_.or_congr_left ⟨fun hx => (code_injective hx).symm, fun hx => by rw [hx]⟩
    have hn : r ∉ (Finset.univ.filter fun x => has S x = true) := by
      simp only [Finset.mem_filter, Finset.mem_univ, _root_.true_and]; exact h
    unfold St
    rw [e, bigSep_insert hn]
    exact .rfl

theorem St_take (R : Res → sProp 𝕄) : ∀ (l : List Res) (S S' : Nat), take S l = some S' → St R S ⊢ iprop(bigSepL l R ∗ St R S')
  | [], S, S', h => by
    cases h
    iintro H
    isplitr
    · iempintro
    iexact H
  | r :: l, S, S', h => by
    unfold take at h
    split at h
    case h_2 => cases h
    case h_1 hh =>
      rw [bigSepL_cons']
      iintro H
      ihave H2 := (St_take1 R S r hh) $$ H
      icases H2 with ⟨Hr, H⟩
      ihave H3 := (St_take R l _ _ h) $$ H
      icases H3 with ⟨Hl, H⟩
      isplitl [Hr Hl]
      · isplitl [Hr]
        · iexact Hr
        iexact Hl
      iexact H

theorem St_put (R : Res → sProp 𝕄) : ∀ (l : List Res) (S : Nat), iprop(bigSepL l R ∗ St R S) ⊢ St R (put S l)
  | [], S => by
    iintro ⟨-, H⟩; iexact H
  | r :: l, S => by
    rw [bigSepL_cons']
    iintro ⟨⟨Hr, Hl⟩, H⟩
    iapply (St_put R l _)
    isplitl [Hl]
    · iexact Hl
    iapply (St_put1 R S r)
    isplitl [Hr]
    · iexact Hr
    iexact H

theorem St_zero (R : Res → sProp 𝕄) : iprop(emp) ⊢ St R 0 := by
  unfold St
  rw [show (Finset.univ.filter fun x => has 0 x = true) = ∅ from by ext x; simp [has]]
  rw [bigSep_empty]; exact .rfl

end States

end Cert.KernelIdeal.Machine
-- ==== Proof.Sem.lean ====
/- What each named resource is on a device, and the sources and arrivals of the copies in these terms. -/
module

public import proofs.«01_k».proof.Proof.Res

@[expose] public section

noncomputable section

namespace Cert.KernelIdeal.Machine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen
open Cp Res

variable {F : FTy → Type} [FloatOps F]

local notation "𝕄" => MT nD τ sig Unit (Elt F) ℕ UU ℕ

section
variable (A : Dev nD → Mat F 1536 768) (B : Dev nD → Mat F 768 1536)

/-- A chunk of a landing buffer after the addition. -/
def accP (c : Dev nD) : Cp → sProp 𝕄
  | rs1 b h u => own c (rC b h u) fullShare (v1 A B b u.val (h.val + 1) c)
  | rs2 h t => own c (r2C h t) fullShare (v2 A B t.val (h.val + 1) c)
  | _ => iprop(emp)

/-- A resource on device `c`. -/
def res (c : Dev nD) : Res → sProp 𝕄
  | acc i => accP A B c i
  | land i => recvPay A B c i
  | dst i => dstP c i
  | mine i => dstP (frm c i) i
  | stok i => iprop(dutyTok ER (sendCell c i) 0 0 ∗ dutyTok ER (recvCell (nb c (dir i)) i) 0 0 ∗ atPos ER (sendCell c i) 0 ∅ 0)
  | fly i => iprop(cred (tallyAt (sendCell c i) () (amt i)) ∗ atPos ER (sendCell c i) 0 ∅ 0)
  | rtok i => iprop(cred (tallyAt (recvCell c i) () (amt i)) ∗ atPos ER (recvCell c i) 0 ∅ 0)
  | zero r i => semVal (dcell c r i) 0
  | pA d => iprop(∃ X : Mat F 1536 1536, pP c (rowSet (lrow c d.val) 192) fullShare X)
  | pC d b u => pP c (rowSet (prow c d.val b u.val) 32) fullShare (Pm A B c)
  | pD b u => pP c (rowSet (prow c 0 b u.val) 32) fullShare (P2 A B c)
  | p16 s t => pP c (rowSet (srow c s.val t.val) 16) fullShare (P2 A B c)
  | oA t => iprop(∃ X : Mat F 1536 1536, oP c (rowSet (srow c 0 t.val) 16) fullShare X)
  | oL s t => oP c (rowSet (srow c s.val t.val) 16) fullShare.left (Out A B)
  | oR s t => oP c (rowSet (srow c s.val t.val) 16) fullShare.right (Out A B)
  | oQ b u => oP c (rowSet (prow c 0 b u.val) 32) fullShare.right (Out A B)
  | o32 d b u => oP c (rowSet (prow c d.val b u.val) 32) fullShare (Out A B)
  | btok n => dutyTok ER (barCell (nb c n)) 0 n
  | bwt => iprop(cred (tallyAt (barCell c) () 4) ∗ atPos ER (barCell c) 0 ∅ 0)
  | bz => semVal (barCell c) 0
  | xa => aP c (A c)

/-! ## The copies' operands as rows -/

section Ops
variable (c : Dev nD) (q : PosShare TreeShare) (X : Mat F 1536 1536)

theorem own_p5 (b : Bool) (u : Fin 3) : own c (p5 c b u) q (rows 32 X (prow c (dd b 0) b u.val)) = pP c (rowSet (prow c (dd b 0) b u.val) 32) q X := by
  cases b
  · exact own_pslice c q (k0_off5_inb c u) (fun _ => rfl) (off5_eq c u) X
  · exact own_pslice c q (k0_off6_inb c u) (fun _ => rfl) (off6_eq c u) X
theorem own_p13 (t : Fin 3) : own c (p13 c t) q (rows 16 X (srow c 3 t.val)) = pP c (rowSet (srow c 3 t.val) 16) q X :=
  own_pslice c q (k0_off13_inb c t) (fun _ => rfl) (off13_eq c t) X
theorem off16_eq' (d : Dev nD) (t : Fin 3) : k0_off16 d (w16 t) = ![srow d ((4 - 0) % 4) t.val, 0] :=
  (off16_eq d t).trans (by rw [show (4 - 0) % 4 = 0 from rfl])
theorem off17_eq' (d : Dev nD) (h : Fin 2) (t : Fin 3) :
    k0_off17 d (BitVec.ofNat 32 (1 + h.val)) (w16 t) = ![srow d ((4 - (h.val + 1)) % 4) t.val, 0] := by
  rw [off17_eq, show (4 - (h.val + 1)) % 4 = 3 - h.val from by have := h.isLt; omega]
theorem own_o2 (d : Dev nD) (h t : Fin 3) :
    own c (o2 d h t) q (rows 16 X (srow d ((4 - h.val) % 4) t.val)) = oP c (rowSet (srow d ((4 - h.val) % 4) t.val) 16) q X := by
  rcases h with ⟨_ | h, hh⟩
  · exact own_oslice c q (k0_off16_inb d t) (fun _ => rfl) (off16_eq' d t) X
  · exact own_oslice c q (k0_off17_inb d ⟨h, Nat.lt_of_succ_lt_succ hh⟩ t) (fun _ => rfl) (off17_eq' d ⟨h, Nat.lt_of_succ_lt_succ hh⟩ t) X
theorem any_o2 (d : Dev nD) (h t : Fin 3) :
    anyP (F := F) c (o2 d h t) = iprop(∃ X : Mat F 1536 1536, oP c (rowSet (srow d ((4 - h.val) % 4) t.val) 16) fullShare X) := by
  rcases h with ⟨_ | h, hh⟩
  · exact any_oslice c (k0_off16_inb d t) (fun _ => rfl) (off16_eq' d t)
  · exact any_oslice c (k0_off17_inb d ⟨h, Nat.lt_of_succ_lt_succ hh⟩ t) (fun _ => rfl) (off17_eq' d ⟨h, Nat.lt_of_succ_lt_succ hh⟩ t)
theorem own_o1 (d : Dev nD) (b : Bool) (h : Fin 7) (u : Fin 3) :
    own c (o1 d b h u) q (rows 32 X (prow d (cond b h.val ((8 - h.val) % 8)) b u.val)) = oP c (rowSet (prow d (cond b h.val ((8 - h.val) % 8)) b u.val) 32) q X := by
  cases b
  · exact own_oslice c q (k0_off18_inb d h u) (fun _ => rfl) (off18_eq d h u) X
  · exact own_oslice c q (k0_off19_inb d h u) (fun _ => rfl) (off19_eq d h u) X
theorem any_o1 (d : Dev nD) (b : Bool) (h : Fin 7) (u : Fin 3) :
    anyP (F := F) c (o1 d b h u) = iprop(∃ X : Mat F 1536 1536, oP c (rowSet (prow d (cond b h.val ((8 - h.val) % 8)) b u.val) 32) fullShare X) := by
  cases b
  · exact any_oslice c (k0_off18_inb d h u) (fun _ => rfl) (off18_eq d h u)
  · exact any_oslice c (k0_off19_inb d h u) (fun _ => rfl) (off19_eq d h u)

end Ops

/-! ## Where a copy's rows lie at the receiver -/

theorem srow_from (c : Dev nD) (h t : Fin 3) : srow (frm c (ag2 h t)) ((4 - h.val) % 4) t.val = srow c (3 - h.val) t.val := by
  show srow (nb c 2) _ _ = _
  have hq := qOf_nb c 2; have hg := gOf_nb c 2
  rw [show (![7, 1, 0, 0] : Fin 4 → Nat) 2 = 0 from rfl] at hq
  rw [show (![0, 0, 3, 1] : Fin 4 → Nat) 2 = 3 from rfl] at hg
  have := qOf_lt c; have := h.isLt
  unfold srow
  rw [hq, hg]
  omega
theorem prow_from (c : Dev nD) (b : Bool) (h : Fin 7) (u : Fin 3) :
    prow (frm c (ag1 b h u)) (cond b h.val ((8 - h.val) % 8)) b u.val = prow c (dd b h.val) b u.val := by
  have := qOf_lt c; have := h.isLt
  cases b
  · show prow (nb c 0) ((8 - h.val) % 8) false u.val = prow c (7 - h.val) false u.val
    have hq := qOf_nb c 0
    rw [show (![7, 1, 0, 0] : Fin 4 → Nat) 0 = 7 from rfl] at hq
    unfold prow
    rw [hq]
    omega
  · show prow (nb c 1) h.val true u.val = prow c (1 + h.val) true u.val
    have hq := qOf_nb c 1
    rw [show (![7, 1, 0, 0] : Fin 4 → Nat) 1 = 1 from rfl] at hq
    unfold prow
    rw [hq]
    omega

/-! ## Sources and arrivals -/

/-- What a copy's source is among the resources. -/
def src : Cp → Res
  | rs1 b ⟨0, _⟩ u => pC (ddF b 0) b u
  | rs1 b ⟨h + 1, hh⟩ u => acc (rs1 b ⟨h, Nat.lt_of_succ_lt hh⟩ u)
  | rs2 ⟨0, _⟩ t => p16 3 t
  | rs2 ⟨h + 1, hh⟩ t => acc (rs2 ⟨h, Nat.lt_of_succ_lt hh⟩ t)
  | ag2 h t => oL (seF h) t
  | ag1 b ⟨0, _⟩ u => oQ b u
  | ag1 b ⟨h + 1, hh⟩ u => o32 (ddF b ⟨h, Nat.lt_of_succ_lt hh⟩) b u

/-- What a copy's arrival brings. -/
def arr : Cp → List Res
  | ag2 h t => [oL (inF h) t, oR (inF h) t]
  | ag1 b h u => [o32 (ddF b h) b u]
  | i => [land i]

theorem src_eq (c : Dev nD) (i : Cp) : res A B c (src i) = sendPay A B c i := by
  rcases i with ⟨b, ⟨_ | h, hh⟩, u⟩ | ⟨⟨_ | h, hh⟩, t⟩ | ⟨h, t⟩ | ⟨b, ⟨_ | h, hh⟩, u⟩
  · exact (own_p5 c fullShare (Pm A B c) b u).symm
  · rfl
  · exact (own_p13 c fullShare (P2 A B c) t).symm
  · rfl
  · exact (own_o2 c fullShare.left (Out A B) c h t).symm
  · have h := own_o1 c fullShare.right (Out A B) c b 0 u
    rw [show prow c (cond b (0 : Fin 7).val ((8 - (0 : Fin 7).val) % 8)) b u.val = prow c 0 b u.val from by cases b <;> rfl] at h
    refine h.symm.trans ?_
    unfold sendPay val
    rw [← show prow c (cond b 0 ((8 - 0) % 8)) b u.val = prow c 0 b u.val from by cases b <;> rfl]
    rfl
  · have hd : prow c (cond b (h + 1) ((8 - (h + 1)) % 8)) b u.val = prow c (dd b h) b u.val := by
      cases b
      · show prow c ((8 - (h + 1)) % 8) false u.val = prow c (7 - h) false u.val
        rw [show (8 - (h + 1)) % 8 = 7 - h from by omega]
      · show prow c (h + 1) true u.val = prow c (1 + h) true u.val
        rw [Nat.add_comm]
    have he := own_o1 c fullShare (Out A B) c b ⟨h + 1, hh⟩ u
    refine Eq.trans ?_ he.symm
    exact (congrArg (fun a => oP c (rowSet a 32) fullShare (Out A B)) hd).symm

theorem arr_intro (c : Dev nD) (i : Cp) : recvPay A B c i ⊢ bigSepL (arr i) (res A B c) := by
  rcases i with ⟨b, h, u⟩ | ⟨h, t⟩ | ⟨h, t⟩ | ⟨b, h, u⟩
  · exact .rfl
  · exact .rfl
  · have e : recvPay A B c (ag2 h t) = oP c (rowSet (srow c (3 - h.val) t.val) 16) fullShare (Out A B) := by
      refine (own_o2 c fullShare (Out A B) (frm c (ag2 h t)) h t).trans ?_
      rw [srow_from]
    rw [e]
    show oP c (rowSet (srow c (3 - h.val) t.val) 16) fullShare (Out A B)
      ⊢ iprop(oP c (rowSet (srow c (3 - h.val) t.val) 16) fullShare.left (Out A B) ∗ oP c (rowSet (srow c (3 - h.val) t.val) 16) fullShare.right (Out A B))
    exact (pointsTo_share (PosShare.mem_left_op_right fullShare)).1
  · have e : recvPay A B c (ag1 b h u) = oP c (rowSet (prow c (dd b h.val) b u.val) 32) fullShare (Out A B) := by
      refine (own_o1 c fullShare (Out A B) (frm c (ag1 b h u)) b h u).trans ?_
      rw [prow_from]
    rw [e]
    exact .rfl

end

end Cert.KernelIdeal.Machine
-- ==== Proof.Steps.lean ====
/- Each instruction of the body: what it takes, what it gives, what it pays of the device's debts. -/
module

public import proofs.«01_k».proof.Proof.Sem

@[expose] public section

noncomputable section

namespace Cert.KernelIdeal.Machine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen
open Cp Res

variable {F : FTy → Type} [FloatOps F]

local notation "𝕄" => MT nD τ sig Unit (Elt F) ℕ UU ℕ

/-! ## Debts -/

/-- What an instruction pays. -/
def owedI (c : Dev nD) : Ins → CellTallies nD τ sig Unit
  | .sig n => tallyAt (barCell (nb c n)) () 1
  | .send i => tallyAt (recvCell (nb c (dir i)) i) () (amt i)
  | _ => 0
/-- What a list of instructions pays. -/
def owedL (c : Dev nD) : List Ins → CellTallies nD τ sig Unit
  | [] => 0
  | x :: l => owedL c l + owedI c x

theorem owedI_pos {c : Dev nD} {x : Ins} {g : GSem nD τ sig} {u : Unit} (h : 0 < owedI c x g u) :
    (∃ n, x = .sig n ∧ g = barCell (nb c n)) ∨ ∃ i, x = .send i ∧ g = recvCell (nb c (dir i)) i := by
  cases x with
  | sig n =>
    left; refine ⟨n, rfl, ?_⟩
    by_contra hn
    unfold owedI at h
    rw [tallyAt_apply, if_neg fun h' => hn h'.1] at h
    exact Nat.lt_irrefl 0 h
  | send i =>
    right; refine ⟨i, rfl, ?_⟩
    by_contra hn
    unfold owedI at h
    rw [tallyAt_apply, if_neg fun h' => hn h'.1] at h
    exact Nat.lt_irrefl 0 h
  | _ => exact absurd h (Nat.lt_irrefl 0)

theorem owedL_pos {c : Dev nD} {g : GSem nD τ sig} {u : Unit} : ∀ {l : List Ins}, 0 < owedL c l g u → ∃ x ∈ l, 0 < owedI c x g u
  | [], h => absurd h (Nat.lt_irrefl 0)
  | x :: l, h => by
    unfold owedL at h
    rw [Pi.add_apply, Finsupp.add_apply] at h
    rcases Nat.eq_zero_or_pos (owedI c x g u) with h0 | h0
    · rw [h0, Nat.add_zero] at h
      obtain ⟨y, hy, hp⟩ := owedL_pos h
      exact ⟨y, List.mem_cons_of_mem _ hy, hp⟩
    · exact ⟨x, List.mem_cons_self, h0⟩

/-- An instruction pays only above level `b`. -/
def above (b : Nat) : Ins → Bool
  | .sig _ => decide (b < 1)
  | .send i => decide (b < lev i)
  | _ => true

/-- A wait at a level below all that is still to be paid. -/
theorem mayWait (c : Dev nD) (sm : SemLoc sig) (b : Nat) (hb : lv ((c : Thread nD τ), sm) () ≤ b) (l : List Ins) (hl : l.all (above b) = true) :
    (levAts L lv : sProp 𝕄) ⊢ MayWait (c : Thread nD τ) sm () (owedL c l) :=
  MayOwe.of_cut (L := L) (lev := lv) b (fun p hp => by rw [Finset.mem_singleton.mp hp, L_tc]; exact Finset.mem_singleton_self _)
    (fun g u hg => by
      obtain ⟨x, -, hp⟩ := owedL_pos hg
      rcases owedI_pos hp with ⟨n, -, rfl⟩ | ⟨i, -, rfl⟩ <;> exact Finset.mem_singleton_self _)
    (fun p hp => by rw [Finset.mem_singleton.mp hp]; exact hb)
    (fun g u hg => by
      obtain ⟨x, hx, hp⟩ := owedL_pos hg
      have ha := List.all_eq_true.mp hl x hx
      rcases owedI_pos hp with ⟨n, rfl, rfl⟩ | ⟨i, rfl, rfl⟩
      · exact of_decide_eq_true ha
      · exact lt_of_lt_of_eq (of_decide_eq_true ha) (lv_recv _ i).symm)

/-- Whether an instruction may run before the rest. -/
def okW : Ins → List Ins → Bool
  | .wait i, l => l.all (above (lev i))
  | .bar, l => l.all (above 1)
  | .drain _, l => l.all (above 0)
  | _, _ => true

/-! ## What an instruction takes and gives -/

def bus : List (Bool × Fin 3) := [(false, 0), (false, 1), (false, 2), (true, 0), (true, 1), (true, 2)]
def sts : List (Fin 4 × Fin 3) := [(0, 0), (0, 1), (0, 2), (1, 0), (1, 1), (1, 2), (2, 0), (2, 1), (2, 2), (3, 0), (3, 1), (3, 2)]
theorem bus_nodup : bus.Nodup := by decide
theorem sts_nodup : sts.Nodup := by decide

def pre : Ins → List Res
  | .sig n => btok n :: (cps.filter fun i => dir i = opp n).map mine
  | .slab d => [xa, pA d]
  | .bar => [bwt]
  | .send i => [src i, stok i, dst i]
  | .wait i => [rtok i]
  | .drain i => [fly i]
  | .acc1 b h u => [land (rs1 b h.castSucc u), pC (ddF b h.succ) b u]
  | .fin b u => [pC 0 b u, land (rs1 b 6 u)]
  | .acc2 h t => [land (rs2 h.castSucc t), p16 ⟨2 - h.val, by omega⟩ t]
  | .gel t => [p16 0 t, land (rs2 2 t), oA t]
  | .regP => bus.map fun x => pD x.1 x.2
  | .regO => sts.map fun x => oR x.1 x.2

def post : Ins → List Res
  | .sig _ => []
  | .slab d => xa :: bus.map fun x => pC d x.1 x.2
  | .bar => bz :: cps.map dst
  | .send i => [fly i]
  | .wait i => zero true i :: arr i
  | .drain i => [src i, zero false i]
  | .acc1 b h u => [acc (rs1 b h.castSucc u), pC (ddF b h.succ) b u]
  | .fin b u => [pD b u, land (rs1 b 6 u)]
  | .acc2 h t => [acc (rs2 h.castSucc t), p16 ⟨2 - h.val, by omega⟩ t]
  | .gel t => [p16 0 t, land (rs2 2 t), oL 0 t, oR 0 t]
  | .regP => sts.map fun x => p16 x.1 x.2
  | .regO => bus.map fun x => oQ x.1 x.2

/-! ## Tilings -/

theorem tile_slab (c : Dev nD) (d : Nat) : Tiling (lrow c d) 192 32 (fun x : Bool × Fin 3 => prow c d x.1 x.2.val) where
  inside := by
    rintro ⟨b, u⟩; have := u.isLt
    cases b <;> simp only [lrow, prow, cond] <;> omega
  cover r h1 h2 := by
    simp only [lrow] at h1 h2
    refine ⟨(decide (96 ≤ r % 192), ⟨(r % 96) / 32, by omega⟩), ?_⟩
    unfold prow
    generalize (qOf c + d) % 8 = q at *
    by_cases h : 96 ≤ r % 192
    · rw [decide_eq_true h]; simp only [cond]; omega
    · rw [decide_eq_false h]; simp only [cond]; omega
  apart := by
    rintro ⟨b, u⟩ ⟨b', u'⟩ hne
    have := u.isLt; have := u'.isLt
    have hh : b = b' → u.val ≠ u'.val := fun hb hu => hne (by rw [hb, Fin.ext hu])
    unfold prow
    generalize (qOf c + d) % 8 = q
    cases b <;> cases b' <;> simp only [cond] <;> first | omega | (have := hh rfl; omega)

theorem tile_quarters (c : Dev nD) : Tiling (lrow c 0) 192 16 (fun x : Fin 4 × Fin 3 => srow c x.1.val x.2.val) where
  inside := by
    rintro ⟨s, t⟩; have := s.isLt; have := t.isLt; have := qOf_lt c; have := gOf_lt c
    simp only [lrow, srow]; omega
  cover r h1 h2 := by
    have := qOf_lt c; have := gOf_lt c
    simp only [lrow] at h1 h2
    refine ⟨(⟨((r % 192) / 48 + 4 - gOf c) % 4, by omega⟩, ⟨(r % 48) / 16, by omega⟩), ?_⟩
    simp only [srow]; omega
  apart := by
    rintro ⟨s, t⟩ ⟨s', t'⟩ hne
    have := s.isLt; have := t.isLt; have := s'.isLt; have := t'.isLt; have := gOf_lt c
    have hh : s.val = s'.val → t.val ≠ t'.val := fun hb hu => hne (by rw [Fin.ext hb, Fin.ext hu])
    simp only [srow]
    by_cases h : s.val = s'.val
    · have := hh h; rw [h]; omega
    · omega

theorem univ_bus : (Finset.univ : Finset (Bool × Fin 3)) = bus.toFinset := by decide
theorem univ_sts : (Finset.univ : Finset (Fin 4 × Fin 3)) = sts.toFinset := by decide

theorem bus_list (Φ : Bool × Fin 3 → Res) (R : Res → sProp 𝕄) : bigSepL (bus.map Φ) R = bigSep Finset.univ fun x => R (Φ x) := by
  rw [bigSepL_map, bigSep_univ_eq_bigSepL bus univ_bus bus_nodup]
theorem sts_list (Φ : Fin 4 × Fin 3 → Res) (R : Res → sProp 𝕄) : bigSepL (sts.map Φ) R = bigSep Finset.univ fun x => R (Φ x) := by
  rw [bigSepL_map, bigSep_univ_eq_bigSepL sts univ_sts sts_nodup]
theorem cps_list (Φ : Cp → Res) (R : Res → sProp 𝕄) : bigSepL (cps.map Φ) R = bigSep Finset.univ fun x => R (Φ x) := by
  rw [bigSepL_map, bigSep_univ_eq_bigSepL cps univ_cps cps_nodup]

/-! ## The steps -/

section
variable (A : Dev nD → Mat F 1536 768) (B : Dev nD → Mat F 768 1536)

/-- The cells' invariants, and that each is at round 0. -/
def records (K : Dev nD × Ck → ℕ) : sProp 𝕄 :=
  iprop((bigSep Finset.univ fun ck : Dev nD × Ck => cellInv ER (ringRd A B) (K ck) (kcell ck))
    ∗ bigSep Finset.univ fun ck : Dev nD × Ck => reached ER (kcell ck) 0)
/-- What every step uses and none changes. -/
def ctx (K : Dev nD × Ck → ℕ) : sProp 𝕄 := iprop(records A B K ∗ levAts L lv)

instance records_persistent (K : Dev nD × Ck → ℕ) : BI.Persistent (records A B K) := by unfold records; infer_instance
instance ctx_persistent (K : Dev nD × Ck → ℕ) : BI.Persistent (ctx A B K) := by unfold ctx; infer_instance

variable (K : Dev nD × Ck → ℕ) (c : Dev nD)

theorem lv_send (i : Cp) : lv (sendCell c i) () = 0 := by dsimp only [lv]; rw [kind_send]

theorem inv_at (ck : Dev nD × Ck) : ctx A B K ⊢ cellInv ER (ringRd A B) (K ck) (kcell ck) := by
  unfold ctx records
  have h : (bigSep Finset.univ fun ck : Dev nD × Ck => (cellInv ER (ringRd A B) (K ck) (kcell ck) : sProp 𝕄)) ⊢ cellInv ER (ringRd A B) (K ck) (kcell ck) :=
    bigSep_elim (Finset.mem_univ ck)
  iintro ⟨⟨H, -⟩, -⟩
  iapply h $$ H
theorem reached_at (ck : Dev nD × Ck) : ctx A B K ⊢ reached ER (kcell ck) 0 := by
  unfold ctx records
  have h : (bigSep Finset.univ fun ck : Dev nD × Ck => (reached ER (kcell ck) 0 : sProp 𝕄)) ⊢ reached ER (kcell ck) 0 :=
    bigSep_elim (Finset.mem_univ ck)
  iintro ⟨⟨-, H⟩, -⟩
  iapply h $$ H
theorem lev_at : ctx A B K ⊢ (levAts L lv : sProp 𝕄) := by
  unfold ctx
  iintro ⟨-, H⟩; iexact H

/-- What remains to be shown of a program after an instruction. -/
def Rest (x : Ins) (rest : List Ins) (k : P F) (Q : PUnit → sProp 𝕄) : sProp 𝕄 :=
  iprop(∀ W' : Waits sig Unit, (bigSepL (post x) (res A B c) ∗ owes (c : Thread nD τ) (owedL c rest) W') -∗ wpc c k Q)

/-- An instruction's rule. -/
def Good (bv : FVec F S768x1536 .bf16) (x : Ins) : Prop :=
  ∀ (rest : List Ins) (k : P F) (Q : PUnit → sProp 𝕄) (W : Waits sig Unit), okW x rest = true →
    iprop(ctx A B K ∗ bigSepL (pre x) (res A B c) ∗ owes (c : Thread nD τ) (owedL c (x :: rest)) W ∗ Rest A B c x rest k Q) ⊢ wpc c (step c bv x k) Q

variable (bv : FVec F S768x1536 .bf16)

theorem good_sig (n : Fin 4) : Good A B K c bv (.sig n) := by
  intro rest k Q W _
  have hp : bigSepL ((cps.filter fun i => dir i = opp n).map mine) (res A B c) ⊢ barPay (F := F) (nb c n) n := by
    rw [bigSepL_map]
    unfold barPay
    rw [bigSep_eq_bigSepL_of_eq (cps.filter fun i => dir i = opp n) (S := cls (opp n))
      (by ext i; simp [cls, mem_cps]) (cps_nodup.filter _)]
    refine bigSepL_mono fun i hi => ?_
    have hd : dir i = opp n := by simpa [mem_cps] using hi
    show dstP (frm c i) i ⊢ dstP (nb c n) i
    unfold frm
    rw [hd, opp_opp]
  unfold Rest
  rw [show pre (.sig n) = btok n :: (cps.filter fun i => dir i = opp n).map mine from rfl, bigSepL_cons']
  iintro ⟨#Hc, ⟨Ht, Hm⟩, Ho, Hk⟩
  iapply (Rounds.wp_signal 𝒱₀ ER (ringRd A B) (c : Thread nD τ) none (dst := (nb c n : Thread nD τ)) (κ := K (nb c n, none))
      (d := n) (by rw [duties_bar]; exact Finset.mem_univ _) (amount_bar A B (nb c n) n) () (owedL c rest) rfl) $$ [Ho Ht Hm]
  · isplitr; · iapply (inv_at A B K (nb c n, none)) $$ Hc
    isplitl [Ho]; · iexact Ho
    isplitl [Ht]; · iapply (Entails.of_eq (show res A B c (btok n) = dutyTok ER (barCell (nb c n)) 0 n from rfl)) $$ Ht
    isplitl [Hm]
    · rw [payload_bar]; iapply hp $$ Hm
    · iapply (reached_at A B K (nb c n, none)) $$ Hc
  iintro Ho
  iapply Hk
  isplitr
  · iempintro
  iexact Ho

theorem good_bar : Good A B K c bv .bar := by
  intro rest k Q W hok
  have hall : rest.all (above 1) = true := hok
  have hmw0 := mayWait (F := F) c (.reg barS) 1 (le_of_eq (lv_bar c)) rest hall
  unfold Rest
  rw [show pre .bar = [bwt] from rfl, show post .bar = bz :: cps.map dst from rfl, bigSepL_cons' bz (cps.map dst), cps_list]
  show iprop(ctx A B K ∗ (cred (tallyAt (barCell c) () 4) ∗ atPos ER (barCell c) 0 ∅ 0) ∗ owes (c : Thread nD τ) (owedL c rest + 0) W ∗ _) ⊢ _
  rw [add_zero]
  iintro ⟨#Hc, ⟨Hcr, Hat⟩, Ho, Hk⟩
  iapply (Rounds.wp_wait_rest_token 𝒱₀ ER (ringRd A B) (c : Thread nD τ) none (κ := K (c, none))
      (wpE_semWait_eq 𝒱₀ (c : Thread nD τ) none Set.univ) (Set.mem_univ _) () (O := owedL c rest) (W := W) (R := 0) (m := 0) (T := ∅)
      (by rw [expect_bar])) $$ [Hcr Ho Hat]
  · isplitr; · iapply (inv_at A B K (c, none)) $$ Hc
    isplitl [Hcr]; · iexact Hcr
    isplitl [Ho]; · iexact Ho
    isplitr
    · iapply hmw0; iapply (@lev_at F _ A B K) $$ Hc
    iexact Hat
  iintro ⟨Ho, Hat, -, Hpay⟩
  ihave Hp := (Entails.of_eq (rest_bar A B c)) $$ Hpay
  imod (Rounds.cell_close ER (ringRd A B) (Set.mem_univ (K (c, none))) (fun h => h) (R := 0 + 1) (duties_later A B (barCell c))) $$ [Hat] with Hz
  · isplitr; · iapply (inv_at A B K (c, none)) $$ Hc
    iexact Hat
  iapply Hk
  isplitr [Ho]
  · isplitl [Hz]; · iapply (Entails.of_eq (show semVal (barCell c) 0 = res A B c bz from rfl)) $$ Hz
    iexact Hp
  iexact Ho

theorem good_wait (i : Cp) : Good A B K c bv (.wait i) := by
  intro rest k Q W hok
  have hall : rest.all (above (lev i)) = true := hok
  have hmw0 := mayWait (F := F) c (.dma (recvS i)) (lev i) (le_of_eq (lv_recv c i)) rest hall
  unfold Rest
  rw [show pre (.wait i) = [rtok i] from rfl, show post (.wait i) = zero true i :: arr i from rfl, bigSepL_cons' (zero true i) (arr i)]
  show iprop(ctx A B K ∗ (cred (tallyAt (recvCell c i) () (amt i)) ∗ atPos ER (recvCell c i) 0 ∅ 0) ∗ owes (c : Thread nD τ) (owedL c rest + 0) W ∗ _) ⊢ _
  rw [add_zero]
  iintro ⟨#Hc, ⟨Hcr, Hat⟩, Ho, Hk⟩
  iapply (Rounds.wp_wait_rest_token 𝒱₀ ER (ringRd A B) (c : Thread nD τ) none (κ := K (c, some (true, i))) (sm := .dma (recvS i)) (k' := amt i)
      (fun Kt => by rw [wpE_waitDma2_eq 𝒱₀ (c : Thread nD τ) none Set.univ, amt_dst]) (Set.mem_univ _) () (O := owedL c rest) (W := W) (R := 0) (m := 0) (T := ∅)
      (by rw [Nat.zero_add, expect_recv])) $$ [Hcr Ho Hat]
  · isplitr; · iapply (inv_at A B K (c, some (true, i))) $$ Hc
    isplitl [Hcr]; · iexact Hcr
    isplitl [Ho]; · iexact Ho
    isplitr
    · iapply hmw0; iapply (@lev_at F _ A B K) $$ Hc
    iexact Hat
  iintro ⟨Ho, Hat, -, Hpay⟩
  ihave Hp := (Entails.of_eq (rest_recv A B c i)) $$ Hpay
  imod (Rounds.cell_close ER (ringRd A B) (Set.mem_univ (K (c, some (true, i)))) (fun h => h) (R := 0 + 1) (duties_later A B (recvCell c i))) $$ [Hat] with Hz
  · isplitr; · iapply (inv_at A B K (c, some (true, i))) $$ Hc
    iexact Hat
  iapply Hk
  isplitr [Ho]
  · isplitl [Hz]; · iapply (Entails.of_eq (show semVal (recvCell c i) 0 = res A B c (zero true i) from rfl)) $$ Hz
    iapply (arr_intro A B c i) $$ Hp
  iexact Ho

theorem good_drain (i : Cp) : Good A B K c bv (.drain i) := by
  intro rest k Q W hok
  have hall : rest.all (above 0) = true := hok
  have hmw0 := mayWait (F := F) c (.dma (sendS i)) 0 (le_of_eq (lv_send c i)) rest hall
  unfold Rest
  rw [show pre (.drain i) = [fly i] from rfl, show post (.drain i) = [src i, zero false i] from rfl]
  show iprop(ctx A B K ∗ (cred (tallyAt (sendCell c i) () (amt i)) ∗ atPos ER (sendCell c i) 0 ∅ 0) ∗ owes (c : Thread nD τ) (owedL c rest + 0) W ∗ _) ⊢ _
  rw [add_zero]
  iintro ⟨#Hc, ⟨Hcr, Hat⟩, Ho, Hk⟩
  iapply (Rounds.wp_wait_rest_token 𝒱₀ ER (ringRd A B) (c : Thread nD τ) none (κ := K (c, some (false, i))) (sm := .dma (sendS i)) (k' := amt i)
      (fun Kt => by rw [wpE_waitDma2_eq 𝒱₀ (c : Thread nD τ) none Set.univ, amt_src]) (Set.mem_univ _) () (O := owedL c rest) (W := W) (R := 0) (m := 0) (T := ∅)
      (by rw [Nat.zero_add, expect_send])) $$ [Hcr Ho Hat]
  · isplitr; · iapply (inv_at A B K (c, some (false, i))) $$ Hc
    isplitl [Hcr]; · iexact Hcr
    isplitl [Ho]; · iexact Ho
    isplitr
    · iapply hmw0; iapply (@lev_at F _ A B K) $$ Hc
    iexact Hat
  iintro ⟨Ho, Hat, -, Hpay⟩
  ihave Hp := (Entails.of_eq ((rest_send A B c i).trans (src_eq A B c i).symm)) $$ Hpay
  imod (Rounds.cell_close ER (ringRd A B) (Set.mem_univ (K (c, some (false, i)))) (fun h => h) (R := 0 + 1) (duties_later A B (sendCell c i))) $$ [Hat] with Hz
  · isplitr; · iapply (inv_at A B K (c, some (false, i))) $$ Hc
    iexact Hat
  iapply Hk
  isplitr [Ho]
  · iapply (Entails.of_eq (show iprop(res A B c (src i) ∗ res A B c (zero false i)) = bigSepL [src i, zero false i] (res A B c) from rfl))
    isplitl [Hp]; · iexact Hp
    iapply (Entails.of_eq (show semVal (sendCell c i) 0 = res A B c (zero false i) from rfl)) $$ Hz
  iexact Ho

theorem good_send (i : Cp) : Good A B K c bv (.send i) := by
  intro rest k Q W hok
  unfold Rest
  rw [show pre (.send i) = [src i, stok i, dst i] from rfl, bigSepL_cons_cons, src_eq]
  show iprop(ctx A B K ∗ (sendPay A B c i ∗ (dutyTok ER (sendCell c i) 0 0 ∗ dutyTok ER (recvCell (nb c (dir i)) i) 0 0 ∗ atPos ER (sendCell c i) 0 ∅ 0) ∗ dstP c i)
    ∗ owes (c : Thread nD τ) (owedL c rest + tallyAt (recvCell (nb c (dir i)) i) () (amt i)) W
    ∗ (∀ W' : Waits sig Unit, ((cred (tallyAt (sendCell c i) () (amt i)) ∗ atPos ER (sendCell c i) 0 ∅ 0) ∗ owes (c : Thread nD τ) (owedL c rest) W') -∗ wpc c k Q)) ⊢ _
  have hfrm : frm (nb c (dir i)) i = c := nb_opp c (dir i)
  unfold sendPay owns dstP
  iintro ⟨#Hc, ⟨⟨%f, %hf, Hs⟩, ⟨Ht1, Ht2, Hat⟩, ⟨%fd, Hd⟩⟩, Ho, Hk⟩
  iapply (Rounds.wp_send_pointsTo 𝒱₀ ER (ringRd A B) (c : Thread nD τ) none (κ₁ := K (c, some (false, i))) (κ₂ := K (nb c (dir i), some (true, i)))
    (r₁ := 0) (r₂ := 0) (d₁ := 0) (d₂ := 0) (fd := fd)
    (by rw [duties_send]; exact Finset.mem_singleton_self _) (by rw [duties_recv]; exact Finset.mem_singleton_self _)
    () () (amt i) (show (dstM c i).view.amount (.dma (recvS i)) = amt i from amt_dst c i) (amount_send A B c i 0) (amount_recv A B (nb c (dir i)) i 0) (owedL c rest) rfl (W := W)
    (by
      rw [payload_send]; unfold sendPay
      rw [← hf]
      exact owns_intro (c : Thread nD τ) (srcM c i) (shr i) f)
    (by
      rw [payload_recv]; unfold recvPay
      rw [hfrm, ← hf]
      have h := owns_intro (Ix := Unit) (Name := ℕ) (U := UU) (Lvl := ℕ) (nb c (dir i) : Thread nD τ) (dstM c i) fullShare
        ((dstM c i).view.write (Elt F) fd ((srcM c i).view.read (Elt F) f) Finset.univ)
      rw [View.read_write_univ] at h
      exact h)) $$ [Hs Hd Ho Ht1 Ht2]
  · isplitr; · iapply (inv_at A B K (c, some (false, i))) $$ Hc
    isplitr; · iapply (inv_at A B K (nb c (dir i), some (true, i))) $$ Hc
    isplitl [Hs]; · iexact Hs
    isplitl [Hd]; · iexact Hd
    isplitl [Ho]; · iexact Ho
    isplitl [Ht1]; · iexact Ht1
    isplitr; · iapply (reached_at A B K (c, some (false, i))) $$ Hc
    isplitl [Ht2]; · iexact Ht2
    iapply (reached_at A B K (nb c (dir i), some (true, i))) $$ Hc
  iintro ⟨Hcr, Ho⟩
  iapply Hk
  isplitr [Ho]
  · isplitl [Hcr]; · iexact Hcr
    iexact Hat
  iexact Ho

end

end Cert.KernelIdeal.Machine
-- ==== Proof.Compute.lean ====
/- The instructions that compute, and the places where rows are cut anew. -/
module

public import proofs.«01_k».proof.Proof.Steps

@[expose] public section

noncomputable section

namespace Cert.KernelIdeal.Machine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen
open Cp Res

variable {F : FTy → Type} [FloatOps F]

local notation "𝕄" => MT nD τ sig Unit (Elt F) ℕ UU ℕ

/-! ## The stored values -/

theorem pay6_eq (x w : Mat F 32 1536) :
    k0_pay6 (shapeCast S1x1x32x1536 x shapeCasts_S32x1536_S1x1x32x1536) w = shapeCast S1x1x32x1536 (addf x w : Mat F 32 1536) shapeCasts_S32x1536_S1x1x32x1536 := by
  unfold k0_pay6
  simp only [shapeCast_shapeCast, shapeCast_self]
theorem pay55_eq (x w : Mat F 16 1536) :
    k0_pay55 (shapeCast S1x1x16x1536 x shapeCasts_S16x1536_S1x1x16x1536) w = shapeCast S1x1x16x1536 (addf x w : Mat F 16 1536) shapeCasts_S16x1536_S1x1x16x1536 := by
  unfold k0_pay55
  simp only [shapeCast_shapeCast, shapeCast_self]
theorem pay48_eq (w x : Mat F 32 1536) :
    k0_pay48 w (shapeCast S1x1x32x1536 x shapeCasts_S32x1536_S1x1x32x1536) = (addf w x : Mat F 32 1536) := by
  unfold k0_pay48
  simp only [shapeCast_shapeCast, shapeCast_self]

section
variable (A : Dev nD → Mat F 1536 768) (B : Dev nD → Mat F 768 1536) (c : Dev nD)

theorem slabAt_wp (d : Fin 8) {off off' : Fin 2 → Nat} {h h' hp} (e : off = ![lrow c d.val, 0]) (e' : off' = ![lrow c d.val, 0]) (k : P F) (Q : PUnit → sProp 𝕄) :
    iprop(res A B c xa ∗ res A B c (pA d)) ⊢ iprop(((res A B c xa ∗ pP c (rowSet (lrow c d.val) 192) fullShare (Pm A B c)) -∗ wpc c k Q)
      -∗ wpc c (slabAt (k0_pay1 (B c)) off off' h h' hp k) Q) := by
  show iprop(aP c (A c) ∗ ∃ X : Mat F 1536 1536, pP c (rowSet (lrow c d.val) 192) fullShare X) ⊢ iprop(((aP c (A c) ∗ pP c (rowSet (lrow c d.val) 192) fullShare (Pm A B c)) -∗ wpc c k Q)
      -∗ wpc c (slabAt (k0_pay1 (B c)) off off' h h' hp k) Q)
  iintro ⟨Ha, ⟨%X, Hp⟩⟩ Hk
  iapply (wp_load_a c h e (A c)) $$ Ha
  iintro Ha
  iapply (wp_load_p c fullShare h' e' X) $$ Hp
  iintro Hp
  iapply (wp_store_p c h' e' X (Pm A B c) _ (rows_Pm A B c d.val)) $$ Hp
  iintro Hp
  iapply Hk
  isplitl [Ha]
  · iexact Ha
  iexact Hp

theorem acc1At_wp (b : Bool) (h : Fin 7) (u : Fin 3) (d : Fin 8) {off : Fin 2 → Nat} {ho} (e : off = ![prow c d.val b u.val, 0]) (x : Mat F 32 1536) (k : P F) (Q : PUnit → sProp 𝕄) :
    iprop(own c (rC b h u) fullShare x ∗ res A B c (pC d b u)) ⊢ iprop(((own c (rC b h u) fullShare (addf x (rows 32 (Pm A B c) (prow c d.val b u.val))) ∗ res A B c (pC d b u)) -∗ wpc c k Q)
      -∗ wpc c (acc1At b h u off ho k) Q) := by
  show iprop(own c (rC b h u) fullShare x ∗ pP c (rowSet (prow c d.val b u.val) 32) fullShare (Pm A B c)) ⊢ iprop(((own c (rC b h u) fullShare (addf x (rows 32 (Pm A B c) (prow c d.val b u.val))) ∗ pP c (rowSet (prow c d.val b u.val) 32) fullShare (Pm A B c)) -∗ wpc c k Q)
      -∗ wpc c (acc1At b h u off ho k) Q)
  iintro ⟨Hr, Hp⟩ Hk
  iapply (wp_load_r c b h u x) $$ Hr
  iintro Hr
  iapply (wp_load_p c fullShare ho e (Pm A B c)) $$ Hp
  iintro Hp
  iapply (wp_load_r c b h u x) $$ Hr
  iintro Hr
  rw [pay6_eq]
  iapply (wp_store_r c b h u x (addf x (rows 32 (Pm A B c) (prow c d.val b u.val)))) $$ Hr
  iintro Hr
  iapply Hk
  isplitl [Hr]
  · iexact Hr
  iexact Hp

theorem acc2At_wp (h t : Fin 3) (s : Fin 4) {off : Fin 2 → Nat} {ho} (e : off = ![srow c s.val t.val, 0]) (x : Mat F 16 1536) (k : P F) (Q : PUnit → sProp 𝕄) :
    iprop(own c (r2C h t) fullShare x ∗ res A B c (p16 s t)) ⊢ iprop(((own c (r2C h t) fullShare (addf x (rows 16 (P2 A B c) (srow c s.val t.val))) ∗ res A B c (p16 s t)) -∗ wpc c k Q)
      -∗ wpc c (acc2At h t off ho k) Q) := by
  show iprop(own c (r2C h t) fullShare x ∗ pP c (rowSet (srow c s.val t.val) 16) fullShare (P2 A B c)) ⊢ iprop(((own c (r2C h t) fullShare (addf x (rows 16 (P2 A B c) (srow c s.val t.val))) ∗ pP c (rowSet (srow c s.val t.val) 16) fullShare (P2 A B c)) -∗ wpc c k Q)
      -∗ wpc c (acc2At h t off ho k) Q)
  iintro ⟨Hr, Hp⟩ Hk
  iapply (wp_load_r2 c h t x) $$ Hr
  iintro Hr
  iapply (wp_load_p c fullShare ho e (P2 A B c)) $$ Hp
  iintro Hp
  iapply (wp_load_r2 c h t x) $$ Hr
  iintro Hr
  rw [pay55_eq]
  iapply (wp_store_r2 c h t x (addf x (rows 16 (P2 A B c) (srow c s.val t.val)))) $$ Hr
  iintro Hr
  iapply Hk
  isplitl [Hr]
  · iexact Hr
  iexact Hp

theorem finAt_wp (b : Bool) (u : Fin 3) {off : Fin 2 → Nat} {ho hp} (e : off = ![prow c 0 b u.val, 0]) (k : P F) (Q : PUnit → sProp 𝕄) :
    iprop(res A B c (pC 0 b u) ∗ own c (rC b 6 u) fullShare (v1 A B b u.val 6 (nb c (cond b 1 0)))) ⊢ iprop(((res A B c (pD b u) ∗ own c (rC b 6 u) fullShare (v1 A B b u.val 6 (nb c (cond b 1 0)))) -∗ wpc c k Q)
      -∗ wpc c (finAt b u off ho hp k) Q) := by
  show iprop(pP c (rowSet (prow c 0 b u.val) 32) fullShare (Pm A B c) ∗ own c (rC b 6 u) fullShare (v1 A B b u.val 6 (nb c (cond b 1 0)))) ⊢ iprop(((pP c (rowSet (prow c 0 b u.val) 32) fullShare (P2 A B c) ∗ own c (rC b 6 u) fullShare (v1 A B b u.val 6 (nb c (cond b 1 0)))) -∗ wpc c k Q)
      -∗ wpc c (finAt b u off ho hp k) Q)
  iintro ⟨Hp, Hr⟩ Hk
  iapply (wp_load_p c fullShare ho e (Pm A B c)) $$ Hp
  iintro Hp
  iapply (wp_load_r c b 6 u (v1 A B b u.val 6 (nb c (cond b 1 0)))) $$ Hr
  iintro Hr
  iapply (wp_load_p c fullShare ho e (Pm A B c)) $$ Hp
  iintro Hp
  iapply (wp_store_p c ho e (Pm A B c) (P2 A B c) _ ((rows_P2 A B c b u).trans (pay48_eq _ _).symm)) $$ Hp
  iintro Hp
  iapply Hk
  isplitl [Hp]
  · iexact Hp
  iexact Hr

theorem gelAt_wp (t : Fin 3) {off : Fin 2 → Nat} {ho hp} (e : off = ![srow c 0 t.val, 0]) (k : P F) (Q : PUnit → sProp 𝕄) :
    iprop(res A B c (p16 0 t) ∗ own c (r2C 2 t) fullShare (v2 A B t.val 2 (nb c 2)) ∗ res A B c (oA t))
      ⊢ iprop(((res A B c (p16 0 t) ∗ own c (r2C 2 t) fullShare (v2 A B t.val 2 (nb c 2)) ∗ oP c (rowSet (srow c 0 t.val) 16) fullShare (Out A B)) -∗ wpc c k Q)
      -∗ wpc c (gelAt t off ho hp k) Q) := by
  show iprop(pP c (rowSet (srow c 0 t.val) 16) fullShare (P2 A B c) ∗ own c (r2C 2 t) fullShare (v2 A B t.val 2 (nb c 2)) ∗ ∃ X : Mat F 1536 1536, oP c (rowSet (srow c 0 t.val) 16) fullShare X)
      ⊢ iprop(((pP c (rowSet (srow c 0 t.val) 16) fullShare (P2 A B c) ∗ own c (r2C 2 t) fullShare (v2 A B t.val 2 (nb c 2)) ∗ oP c (rowSet (srow c 0 t.val) 16) fullShare (Out A B)) -∗ wpc c k Q)
      -∗ wpc c (gelAt t off ho hp k) Q)
  iintro ⟨Hp, Hr, ⟨%X, Ho⟩⟩ Hk
  iapply (wp_load_p c fullShare ho e (P2 A B c)) $$ Hp
  iintro Hp
  iapply (wp_load_r2 c 2 t (v2 A B t.val 2 (nb c 2))) $$ Hr
  iintro Hr
  iapply (wp_load_o c fullShare ho e X) $$ Ho
  iintro Ho
  iapply (wp_store_o c ho e X (Out A B) _ (rows_Out A B c t)) $$ Ho
  iintro Ho
  iapply Hk
  isplitl [Hp]
  · iexact Hp
  isplitl [Hr]
  · iexact Hr
  iexact Ho

end

/-! ## The rules -/

section
variable (A : Dev nD → Mat F 1536 768) (B : Dev nD → Mat F 768 1536) (K : Dev nD × Ck → ℕ) (c : Dev nD)

theorem good_of (bv : FVec F S768x1536 .bf16) (x : Ins) (h0 : owedI c x = 0)
    (h : ∀ (k : P F) (Q : PUnit → sProp 𝕄), bigSepL (pre x) (res A B c) ⊢ iprop((bigSepL (post x) (res A B c) -∗ wpc c k Q) -∗ wpc c (step c bv x k) Q)) :
    Good A B K c bv x := by
  intro rest k Q W _
  unfold Rest
  show iprop(ctx A B K ∗ bigSepL (pre x) (res A B c) ∗ owes (c : Thread nD τ) (owedL c rest + owedI c x) W ∗ _) ⊢ _
  rw [h0, add_zero]
  iintro ⟨-, Hp, Ho, Hk⟩
  iapply (h k Q) $$ Hp
  iintro Hp
  iapply Hk
  isplitl [Hp]
  · iexact Hp
  iexact Ho

theorem slab_post (d : Fin 8) : iprop(res A B c xa ∗ pP c (rowSet (lrow c d.val) 192) fullShare (Pm A B c)) ⊢ bigSepL (post (.slab d)) (res A B c) := by
  rw [show post (.slab d) = xa :: bus.map fun x => pC d x.1 x.2 from rfl, bigSepL_cons', bus_list, (tile_slab c d.val).p_eq (Pm A B c)]
  exact .rfl

theorem good_slab (d : Fin 8) : Good A B K c (k0_pay1 (B c)) (.slab d) := by
  refine good_of A B K c _ _ rfl fun k Q => ?_
  have key (off off' : Fin 2 → Nat) (h h' hp) (e : off = ![lrow c d.val, 0]) (e' : off' = ![lrow c d.val, 0]) :
      bigSepL (pre (.slab d)) (res A B c) ⊢ iprop((bigSepL (post (.slab d)) (res A B c) -∗ wpc c k Q) -∗ wpc c (slabAt (k0_pay1 (B c)) off off' h h' hp k) Q) := by
    show iprop(res A B c xa ∗ res A B c (pA d)) ⊢ _
    iintro H Hk
    iapply (slabAt_wp A B c d e e' k Q) $$ H
    iintro H
    iapply Hk
    iapply (slab_post A B c d) $$ H
  match d, key with
  | ⟨0, _⟩, key => exact key _ _ _ _ (k0_off10_packedbf16 c) (off9_eq c) (off10_eq c)
  | ⟨d + 1, hd⟩, key =>
    by_cases h : d < 4
    · have es : step c (k0_pay1 (B c)) (.slab ⟨d + 1, hd⟩) k = slabAt (k0_pay1 (B c)) (k0_off3 c (BitVec.ofNat 32 (1 + d))) (k0_off4 c (BitVec.ofNat 32 (1 + d))) (k0_off3_inb c ⟨d, h⟩) (k0_off4_inb c ⟨d, h⟩)
        (k0_off4_packedbf16 c ⟨d, h⟩) k := dif_pos h
      rw [es]
      exact key _ _ _ _ _ ((off3_eq c ⟨d, h⟩).trans (by rw [Nat.add_comm 1])) ((off4_eq c ⟨d, h⟩).trans (by rw [Nat.add_comm 1]))
    · have es : step c (k0_pay1 (B c)) (.slab ⟨d + 1, hd⟩) k = slabAt (k0_pay1 (B c)) (k0_off1 c (BitVec.ofNat 32 (1 + (6 - d)))) (k0_off2 c (BitVec.ofNat 32 (1 + (6 - d)))) (k0_off1_inb c ⟨6 - d, by omega⟩)
        (k0_off2_inb c ⟨6 - d, by omega⟩) (k0_off2_packedbf16 c ⟨6 - d, by omega⟩) k := dif_neg h
      rw [es]
      have ed : 7 - (6 - d) = d + 1 := by omega
      exact key _ _ _ _ _ ((off1_eq c ⟨6 - d, by omega⟩).trans (by rw [ed])) ((off2_eq c ⟨6 - d, by omega⟩).trans (by rw [ed]))

variable (bv : FVec F S768x1536 .bf16)

theorem good_acc1 (b : Bool) (h : Fin 6) (u : Fin 3) : Good A B K c bv (.acc1 b h u) := by
  refine good_of A B K c _ _ rfl fun k Q => ?_
  have hd : (ddF b h.succ).val = dd b (h.val + 1) := rfl
  have key (off : Fin 2 → Nat) (ho) (e : off = ![prow c (ddF b h.succ).val b u.val, 0]) :=
    acc1At_wp A B c b h.castSucc u (ddF b h.succ) (ho := ho) e (v1 A B b u.val h.val (nb c (cond b 1 0))) k Q
  cases b
  · exact key _ _ ((off7_eq c h u).trans (by rw [hd, show dd false (h.val + 1) = 6 - h.val from by show 7 - (h.val + 1) = _; omega]))
  · exact key _ _ ((off8_eq c h u).trans (by rw [hd, show dd true (h.val + 1) = h.val + 2 from by show 1 + (h.val + 1) = _; omega]))

theorem good_acc2 (h : Fin 2) (t : Fin 3) : Good A B K c bv (.acc2 h t) := by
  refine good_of A B K c _ _ rfl fun k Q => ?_
  have hs : (3 - (h.val + 1)) = 2 - h.val := by omega
  have key := acc2At_wp A B c h.castSucc t ⟨2 - h.val, by omega⟩ (ho := k0_off14_inb c h t) (off14_eq c h t) (v2 A B t.val h.val (nb c 2)) k Q
  have e : addf (v2 A B t.val h.val (nb c 2)) (rows 16 (P2 A B c) (srow c (2 - h.val) t.val)) = v2 A B t.val (h.val + 1) c := by
    rw [← hs]; rfl
  dsimp only at key
  rw [e] at key
  exact key

theorem good_fin (b : Bool) (u : Fin 3) : Good A B K c bv (.fin b u) := by
  refine good_of A B K c _ _ rfl fun k Q => ?_
  have key (off : Fin 2 → Nat) (ho hp) (e : off = ![prow c 0 b u.val, 0]) := finAt_wp A B c b u (ho := ho) (hp := hp) e k Q
  cases b
  · exact key _ _ (k0_off11_packedbf16 c u) (off11_eq c u)
  · exact key _ _ (k0_off12_packedbf16 c u) (off12_eq c u)

theorem good_gel (t : Fin 3) : Good A B K c bv (.gel t) := by
  refine good_of A B K c _ _ rfl fun k Q => ?_
  have key := gelAt_wp A B c t (ho := k0_off15_inb c t) (hp := k0_off15_packedbf16 c t) (off15_eq c t) k Q
  have h1 : iprop(res A B c (p16 0 t) ∗ own c (r2C 2 t) fullShare (v2 A B t.val 2 (nb c 2)) ∗ oP c (rowSet (srow c 0 t.val) 16) fullShare (Out A B))
      ⊢ iprop(res A B c (p16 0 t) ∗ res A B c (land (rs2 2 t)) ∗ res A B c (oL 0 t) ∗ res A B c (oR 0 t)) := by
    show iprop(res A B c (p16 0 t) ∗ res A B c (land (rs2 2 t)) ∗ oP c (rowSet (srow c 0 t.val) 16) fullShare (Out A B)) ⊢ _
    iintro ⟨H1, H2, H3⟩
    isplitl [H1]
    · iexact H1
    isplitl [H2]
    · iexact H2
    iapply ((pointsTo_share (PosShare.mem_left_op_right fullShare)).1) $$ H3
  have hl : own c (r2C 2 t) fullShare (v2 A B t.val 2 (nb c 2)) = res A B c (land (rs2 2 t)) := rfl
  rw [hl] at key h1
  show iprop(res A B c (p16 0 t) ∗ res A B c (land (rs2 2 t)) ∗ res A B c (oA t)) ⊢
    iprop(((res A B c (p16 0 t) ∗ res A B c (land (rs2 2 t)) ∗ res A B c (oL 0 t) ∗ res A B c (oR 0 t)) -∗ wpc c k Q) -∗ wpc c (step c bv (.gel t) k) Q)
  iintro H Hk
  iapply key $$ H
  iintro H
  iapply Hk
  iapply h1 $$ H

theorem good_regP : Good A B K c bv .regP := by
  refine good_of A B K c _ _ rfl fun k Q => ?_
  have h : bigSepL (pre .regP) (res A B c) ⊢ bigSepL (post .regP) (res A B c) := by
    rw [show pre .regP = bus.map fun x => pD x.1 x.2 from rfl, show post .regP = sts.map fun x => p16 x.1 x.2 from rfl, bus_list, sts_list]
    exact Entails.of_eq (((tile_slab c 0).p_eq (P2 A B c)).symm.trans ((tile_quarters c).p_eq (P2 A B c)))
  iintro H Hk
  iapply Hk
  iapply h $$ H

theorem good_regO : Good A B K c bv .regO := by
  refine good_of A B K c _ _ rfl fun k Q => ?_
  have h : bigSepL (pre .regO) (res A B c) ⊢ bigSepL (post .regO) (res A B c) := by
    rw [show pre .regO = sts.map fun x => oR x.1 x.2 from rfl, show post .regO = bus.map fun x => oQ x.1 x.2 from rfl, bus_list, sts_list]
    exact Entails.of_eq (((tile_quarters c).o_eq (Out A B)).symm.trans ((tile_slab c 0).o_eq (Out A B)))
  iintro H Hk
  iapply Hk
  iapply h $$ H

/-- Every instruction has its rule. -/
theorem good (x : Ins) : Good A B K c (k0_pay1 (B c)) x := by
  cases x with
  | sig n => exact good_sig A B K c _ n
  | slab d => exact good_slab A B K c d
  | bar => exact good_bar A B K c _
  | send i => exact good_send A B K c _ i
  | wait i => exact good_wait A B K c _ i
  | drain i => exact good_drain A B K c _ i
  | acc1 b h u => exact good_acc1 A B K c _ b h u
  | fin b u => exact good_fin A B K c _ b u
  | acc2 h t => exact good_acc2 A B K c _ h t
  | gel t => exact good_gel A B K c _ t
  | regP => exact good_regP A B K c _
  | regO => exact good_regO A B K c _

end

end Cert.KernelIdeal.Machine
-- ==== Proof.Exec.lean ====
/- The body's run: the instructions' rules one after another, the resources kept as a finite set. -/
module

public import proofs.«01_k».proof.Proof.Compute

@[expose] public section

noncomputable section

namespace Cert.KernelIdeal.Machine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen
open Cp Res

variable {F : FTy → Type} [FloatOps F]

local notation "𝕄" => MT nD τ sig Unit (Elt F) ℕ UU ℕ

/-- The resources after a list of instructions, `r` the instructions to come after the list; `none` if a resource is
    missing or a wait is out of order. -/
def exec (r : List Ins) : List Ins → Nat → Option Nat
  | [], S => some S
  | x :: l, S => if okW x (l ++ r) = true then (match take S (pre x) with | some S' => exec r l (put S' (post x)) | none => none) else none

section
variable (A : Dev nD → Mat F 1536 768) (B : Dev nD → Mat F 768 1536) (K : Dev nD × Ck → ℕ) (c : Dev nD) (bv : FVec F S768x1536 .bf16)

/-- A list of instructions runs if `exec` says so. -/
theorem run_sound (r : List Ins) (k : P F) (Q : PUnit → sProp 𝕄) : ∀ (l : List Ins) (S S' : Nat) (W : Waits sig Unit), exec r l S = some S' →
    (∀ x ∈ l, Good A B K c bv x) →
    iprop(ctx A B K ∗ St (res A B c) S ∗ owes (c : Thread nD τ) (owedL c (l ++ r)) W
      ∗ (∀ W' : Waits sig Unit, (St (res A B c) S' ∗ owes (c : Thread nD τ) (owedL c r) W') -∗ wpc c k Q)) ⊢ wpc c (run c bv l k) Q
  | [], S, S', W, h, _ => by
    cases h
    show iprop(ctx A B K ∗ St (res A B c) S ∗ owes (c : Thread nD τ) (owedL c r) W
      ∗ (∀ W' : Waits sig Unit, (St (res A B c) S ∗ owes (c : Thread nD τ) (owedL c r) W') -∗ wpc c k Q)) ⊢ wpc c k Q
    iintro ⟨-, HS, Ho, Hk⟩
    iapply Hk
    isplitl [HS]
    · iexact HS
    iexact Ho
  | x :: l, S, S', W, h, hg => by
    unfold exec at h
    split at h
    case isFalse => cases h
    case isTrue hok =>
    split at h
    case h_2 => cases h
    case h_1 S1 hS1 =>
    have hx := hg x List.mem_cons_self (l ++ r) (run c bv l k) Q W hok
    have ih := fun W' => run_sound r k Q l (put S1 (post x)) S' W' h fun y hy => hg y (List.mem_cons_of_mem _ hy)
    show iprop(ctx A B K ∗ St (res A B c) S ∗ owes (c : Thread nD τ) (owedL c (x :: (l ++ r))) W
      ∗ (∀ W' : Waits sig Unit, (St (res A B c) S' ∗ owes (c : Thread nD τ) (owedL c r) W') -∗ wpc c k Q)) ⊢ wpc c (step c bv x (run c bv l k)) Q
    iintro ⟨#Hc, HS, Ho, Hk⟩
    ihave H := (St_take (res A B c) (pre x) S S1 hS1) $$ HS
    icases H with ⟨Hp, HS⟩
    iapply hx
    isplitr
    · iexact Hc
    isplitl [Hp]
    · iexact Hp
    isplitl [Ho]
    · iexact Ho
    unfold Rest
    iintro %W'
    iintro ⟨Hp, Ho⟩
    iapply (ih W')
    isplitr
    · iexact Hc
    isplitl [Hp HS]
    · iapply (St_put (res A B c) (post x) S1)
      isplitl [Hp]
      · iexact Hp
      iexact HS
    isplitl [Ho]
    · iexact Ho
    iexact Hk

end

/-! ## The body -/

/-- The rows off the own slab, in chunks of 32: slab, half, chunk. -/
def dbu : List (Fin 8 × Bool × Fin 3) := [1, 2, 3, 4, 5, 6, 7].flatMap fun d => bus.map fun x => (d, x)
/-- The own slab's rows off the own quarter, in chunks of 16, by the hop of the second all-gather that brings them. -/
def hts : List (Fin 3 × Fin 3) := [(2, 0), (2, 1), (2, 2), (1, 0), (1, 1), (1, 2), (0, 0), (0, 1), (0, 2)]
/-- The chunks of a landing buffer. -/
def hus : List (Fin 7 × Fin 3) := (List.finRange 7).flatMap fun h => us.map fun u => (h, u)
/-- The copy of the first all-gather that brings a chunk. -/
def brings (x : Fin 8 × Bool × Fin 3) : Cp :=
  ag1 x.2.1 ⟨(cond x.2.1 (x.1.val - 1) (7 - x.1.val)) % 7, Nat.mod_lt _ (by decide)⟩ x.2.2

/-- The duties a device is to pay, the credits it is to wait for. -/
def tokL : List Res := bwt :: (([0, 1, 2, 3].map btok) ++ (cps.map stok) ++ (cps.map rtok))
/-- What a device starts with. -/
def initL : List Res :=
  (xa :: tokL)
    ++ ((List.finRange 8).map pA) ++ ((us.map oA) ++ (hts.map fun x => mine (ag2 x.1 x.2)) ++ (dbu.map fun x => mine (brings x)))
    ++ (hus.map fun x => mine (rs1 false x.1 x.2)) ++ (hus.map fun x => mine (rs1 true x.1 x.2)) ++ (hts.map fun x => mine (rs2 x.1 x.2))

/-- What becomes of copy `i`'s landing place. -/
def left : Cp → Res
  | rs1 b h u => if h.val < 6 then acc (rs1 b h u) else land (rs1 b h u)
  | rs2 h t => if h.val < 2 then acc (rs2 h t) else land (rs2 h t)
  | i => zero true i

/-- The device's semaphores, all at zero. -/
def zeroL : List Res := bz :: ((cps.map (zero false)) ++ (cps.map (zero true)))
/-- What it ends with. -/
def finalL : List Res :=
  (xa :: zeroL)
    ++ ((sts.map fun x => p16 x.1 x.2) ++ (dbu.map fun x => pC x.1 x.2.1 x.2.2))
    ++ ((sts.map fun x => oL x.1 x.2) ++ (bus.map fun x => oQ x.1 x.2) ++ (dbu.map fun x => o32 x.1 x.2.1 x.2.2))
    ++ (hus.map fun x => left (rs1 false x.1 x.2)) ++ (hus.map fun x => left (rs1 true x.1 x.2)) ++ (hts.map fun x => left (rs2 x.1 x.2))

def check : Bool :=
  match exec body sigs (put 0 initL) with
  | none => false
  | some S1 => match exec [] body S1 with
    | none => false
    | some S2 => (take S2 finalL).isSome

set_option maxRecDepth 100000 in
theorem check_eq : check = true := by decide +kernel

theorem unpack (e : Option Nat) (f : Nat → Option Nat) (g : Nat → Option Nat)
    (h : (match e with | none => false | some S1 => match f S1 with | none => false | some S2 => (g S2).isSome) = true) :
    ∃ S1 S2 S3, e = some S1 ∧ f S1 = some S2 ∧ g S2 = some S3 := by
  cases e with
  | none => cases h
  | some S1 =>
    have h : (match f S1 with | none => false | some S2 => (g S2).isSome) = true := h
    generalize hf : f S1 = o at h
    cases o with
    | none => cases h
    | some S2 => exact ⟨S1, S2, (g S2).get h, rfl, hf, (Option.some_get h).symm⟩

/-- The body runs from the resources a device starts with to those it ends with. -/
theorem exec_final : ∃ S1 S2 S3, exec body sigs (put 0 initL) = some S1 ∧ exec [] body S1 = some S2 ∧ take S2 finalL = some S3 :=
  unpack _ (exec [] body) (fun S => take S finalL) (by have h := check_eq; unfold check at h; exact h)

end Cert.KernelIdeal.Machine
-- ==== Proof.Buffers.lean ====
/- The device's buffers cut into the resources it starts with, and put together from those it ends with. -/
module

public import proofs.«01_k».proof.Proof.Exec

@[expose] public section

noncomputable section

namespace Cert.KernelIdeal.Machine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen
open Cp Res

variable {F : FTy → Type} [FloatOps F]

local notation "𝕄" => MT nD τ sig Unit (Elt F) ℕ UU ℕ

theorem whole_rows : rowSet 0 1536 = Finset.univ := by
  ext i
  rw [mem_rowSet]
  have : (i 0).val < 1536 := (i 0).isLt
  exact ⟨fun _ => Finset.mem_univ _, fun _ => ⟨Nat.zero_le _, by omega⟩⟩

theorem tile_all (c : Dev nD) : Tiling 0 1536 192 (fun d : Fin 8 => lrow c d.val) where
  inside d := by have := lrow_le c d.val; simp only [lrow] at *; omega
  cover r h1 h2 := by
    have := qOf_lt c
    refine ⟨⟨(r / 192 + 8 - qOf c) % 8, Nat.mod_lt _ (by decide)⟩, ?_⟩
    simp only [lrow]; omega
  apart d d' hne := by
    have := qOf_lt c; have := d.isLt; have := d'.isLt
    have : d.val ≠ d'.val := fun h => hne (Fin.ext h)
    simp only [lrow]; omega

theorem fin8 (R : Fin 8 → sProp 𝕄) : bigSep Finset.univ R = iprop(R 0 ∗ bigSepL [1, 2, 3, 4, 5, 6, 7] R) :=
  bigSep_univ_eq_bigSepL [0, 1, 2, 3, 4, 5, 6, 7] (by decide) (by decide) R

theorem bigSepL_flatMap {I J : Type} (l : List I) (g : I → List J) (R : J → sProp 𝕄) :
    bigSepL (l.flatMap g) R = bigSepL l fun i => bigSepL (g i) R := by
  induction l with
  | nil => rfl
  | cons i l ih => rw [List.flatMap_cons, bigSepL_append, bigSepL_cons', ih]

theorem dbu_list (R : Fin 8 × Bool × Fin 3 → sProp 𝕄) : bigSepL dbu R = bigSepL [1, 2, 3, 4, 5, 6, 7] fun d => bigSep Finset.univ fun x : Bool × Fin 3 => R (d, x) := by
  unfold dbu
  rw [bigSepL_flatMap]
  refine congrArg _ (funext fun d => ?_)
  rw [bigSepL_map, bigSep_univ_eq_bigSepL bus univ_bus bus_nodup]

theorem sts_split : sts = (us.map fun t => ((0 : Fin 4), t)) ++ hts.map fun x => (inF x.1, x.2) := by decide

theorem ddF_brings : ∀ d ∈ ([1, 2, 3, 4, 5, 6, 7] : List (Fin 8)), ∀ b : Bool,
    dd b ((cond b (d.val - 1) (7 - d.val)) % 7) = d.val := by decide

theorem dbu_mem {x : Fin 8 × Bool × Fin 3} (h : x ∈ dbu) : x.1 ∈ ([1, 2, 3, 4, 5, 6, 7] : List (Fin 8)) := by
  unfold dbu at h
  obtain ⟨d, hd, hx⟩ := List.mem_flatMap.mp h
  obtain ⟨y, -, rfl⟩ := List.mem_map.mp hx
  exact hd

section
variable (A : Dev nD → Mat F 1536 768) (B : Dev nD → Mat F 768 1536) (c : Dev nD)

/-! ## The partial product's buffer -/

theorem p_init : iprop(∃ X : Mat F 1536 1536, pP c Finset.univ fullShare X) ⊢ bigSepL ((List.finRange 8).map pA) (res A B c) := by
  rw [← whole_rows, bigSepL_map, ← bigSep_univ_eq_bigSepL (List.finRange 8) (by decide) (List.nodup_finRange 8)]
  exact (tile_all c).p_cut

theorem slab_any (d : Fin 8) : (bigSep Finset.univ fun x : Bool × Fin 3 => res A B c (pC d x.1 x.2)) ⊢ iprop(∃ X : Mat F 1536 1536, pP c (rowSet (lrow c d.val) 192) fullShare X) := by
  have h := (tile_slab c d.val).p_eq (F := F) (c := c) (q := fullShare) (Pm A B c)
  have h2 : (bigSep Finset.univ fun x : Bool × Fin 3 => res A B c (pC d x.1 x.2)) ⊢ pP c (rowSet (lrow c d.val) 192) fullShare (Pm A B c) := Entails.of_eq h.symm
  iintro H
  iexists (Pm A B c)
  iapply h2 $$ H

theorem p_final : bigSepL ((sts.map fun x => p16 x.1 x.2) ++ (dbu.map fun x => pC x.1 x.2.1 x.2.2)) (res A B c)
    ⊢ iprop(∃ X : Mat F 1536 1536, pP c Finset.univ fullShare X) := by
  have h0 : (bigSep Finset.univ fun x : Fin 4 × Fin 3 => res A B c (p16 x.1 x.2)) ⊢ pP c (rowSet (lrow c 0) 192) fullShare (P2 A B c) :=
    Entails.of_eq ((tile_quarters c).p_eq (F := F) (c := c) (q := fullShare) (P2 A B c)).symm
  have h1 : bigSepL ([1, 2, 3, 4, 5, 6, 7] : List (Fin 8)) (fun d => bigSep Finset.univ fun x : Bool × Fin 3 => res A B c (pC d x.1 x.2))
      ⊢ bigSepL ([1, 2, 3, 4, 5, 6, 7] : List (Fin 8)) (fun d => iprop(∃ X : Mat F 1536 1536, pP c (rowSet (lrow c d.val) 192) fullShare X)) :=
    bigSepL_mono fun d _ => slab_any A B c d
  have h2 : (bigSep Finset.univ fun d : Fin 8 => iprop(∃ X : Mat F 1536 1536, pP c (rowSet (lrow c d.val) 192) fullShare X)) ⊢ iprop(∃ X : Mat F 1536 1536, pP c Finset.univ fullShare X) := by
    rw [← whole_rows]; exact (tile_all c).p_join
  rw [fin8] at h2
  rw [bigSepL_append, sts_list, bigSepL_map, dbu_list]
  iintro ⟨H0, H1⟩
  iapply h2
  isplitl [H0]
  · iexists (P2 A B c)
    iapply h0 $$ H0
  iapply h1 $$ H1

/-! ## The result's buffer -/

/-- The rows a copy to `c` writes, as `c` names them. -/
theorem mine_eq (i : Cp) : res A B c (mine i) = anyP (F := F) c (dstM (frm c i) i) := by
  have key (d : Dev nD) (h : d = c) : (iprop(∃ f, (dstM (frm c i) i).view.loc (d : Thread nD τ) ↦[(dstM (frm c i) i).view.set]{fullShare} f) : sProp 𝕄) = anyP (F := F) c (dstM (frm c i) i) := by
    subst h; rfl
  exact key _ (nb_opp' c (dir i))

theorem mine_ag2 (h t : Fin 3) : res A B c (mine (ag2 h t)) = iprop(∃ X : Mat F 1536 1536, oP c (rowSet (srow c (3 - h.val) t.val) 16) fullShare X) := by
  rw [mine_eq, ← srow_from]
  exact any_o2 c (frm c (ag2 h t)) h t
theorem mine_ag1 (b : Bool) (h : Fin 7) (u : Fin 3) : res A B c (mine (ag1 b h u)) = iprop(∃ X : Mat F 1536 1536, oP c (rowSet (prow c (dd b h.val) b u.val) 32) fullShare X) := by
  rw [mine_eq, ← prow_from]
  exact any_o1 c (frm c (ag1 b h u)) b h u
theorem mine_brings (x : Fin 8 × Bool × Fin 3) (hx : x ∈ dbu) :
    iprop(∃ X : Mat F 1536 1536, oP c (rowSet (prow c x.1.val x.2.1 x.2.2.val) 32) fullShare X) ⊢ res A B c (mine (brings x)) := by
  unfold brings
  rw [mine_ag1, ddF_brings x.1 (dbu_mem hx) x.2.1]

theorem o_init : iprop(∃ X : Mat F 1536 1536, oP c Finset.univ fullShare X)
    ⊢ bigSepL ((us.map oA) ++ (hts.map fun x => mine (ag2 x.1 x.2)) ++ (dbu.map fun x => mine (brings x))) (res A B c) := by
  have h1 : iprop(∃ X : Mat F 1536 1536, oP c Finset.univ fullShare X) ⊢ bigSep Finset.univ fun d : Fin 8 => iprop(∃ X : Mat F 1536 1536, oP c (rowSet (lrow c d.val) 192) fullShare X) := by
    rw [← whole_rows]; exact (tile_all c).o_cut
  rw [fin8] at h1
  have h2 : iprop(∃ X : Mat F 1536 1536, oP c (rowSet (lrow c (0 : Fin 8).val) 192) fullShare X) ⊢ bigSepL sts fun x => iprop(∃ X : Mat F 1536 1536, oP c (rowSet (srow c x.1.val x.2.val) 16) fullShare X) := by
    rw [← bigSep_univ_eq_bigSepL sts univ_sts sts_nodup]; exact (tile_quarters c).o_cut
  rw [sts_split, bigSepL_append, bigSepL_map, bigSepL_map] at h2
  have h3 : bigSepL hts (fun x => iprop(∃ X : Mat F 1536 1536, oP c (rowSet (srow c (inF x.1).val x.2.val) 16) fullShare X)) ⊢ bigSepL hts fun x => res A B c (mine (ag2 x.1 x.2)) :=
    bigSepL_mono fun x _ => by rw [mine_ag2]
  have h4 : bigSepL ([1, 2, 3, 4, 5, 6, 7] : List (Fin 8)) (fun d => iprop(∃ X : Mat F 1536 1536, oP c (rowSet (lrow c d.val) 192) fullShare X))
      ⊢ bigSepL dbu fun x => iprop(∃ X : Mat F 1536 1536, oP c (rowSet (prow c x.1.val x.2.1 x.2.2.val) 32) fullShare X) := by
    rw [dbu_list]
    exact bigSepL_mono fun d _ => (tile_slab c d.val).o_cut
  have h5 := h4.trans (bigSepL_mono fun x hx => mine_brings A B c x hx)
  rw [bigSepL_append, bigSepL_append, bigSepL_map, bigSepL_map, bigSepL_map]
  iintro H
  ihave H := h1 $$ H
  icases H with ⟨H0, H1⟩
  ihave H0 := h2 $$ H0
  icases H0 with ⟨Ha, Hb⟩
  isplitl [Ha Hb]
  · isplitl [Ha]
    · iexact Ha
    iapply h3 $$ Hb
  iapply h5 $$ H1

theorem o_final : bigSepL ((sts.map fun x => oL x.1 x.2) ++ (bus.map fun x => oQ x.1 x.2) ++ (dbu.map fun x => o32 x.1 x.2.1 x.2.2)) (res A B c)
    ⊢ oP c Finset.univ fullShare (Out A B) := by
  have hl : (bigSep Finset.univ fun x : Fin 4 × Fin 3 => res A B c (oL x.1 x.2)) ⊢ oP c (rowSet (lrow c 0) 192) fullShare.left (Out A B) :=
    Entails.of_eq ((tile_quarters c).o_eq (F := F) (c := c) (q := fullShare.left) (Out A B)).symm
  have hr : (bigSep Finset.univ fun x : Bool × Fin 3 => res A B c (oQ x.1 x.2)) ⊢ oP c (rowSet (lrow c 0) 192) fullShare.right (Out A B) :=
    Entails.of_eq ((tile_slab c 0).o_eq (F := F) (c := c) (q := fullShare.right) (Out A B)).symm
  have h1 : bigSepL ([1, 2, 3, 4, 5, 6, 7] : List (Fin 8)) (fun d => bigSep Finset.univ fun x : Bool × Fin 3 => res A B c (o32 d x.1 x.2))
      ⊢ bigSepL ([1, 2, 3, 4, 5, 6, 7] : List (Fin 8)) (fun d => oP c (rowSet (lrow c d.val) 192) fullShare (Out A B)) :=
    bigSepL_mono fun d _ => Entails.of_eq ((tile_slab c d.val).o_eq (F := F) (c := c) (q := fullShare) (Out A B)).symm
  have h2 : (bigSep Finset.univ fun d : Fin 8 => oP c (rowSet (lrow c d.val) 192) fullShare (Out A B)) ⊢ oP c Finset.univ fullShare (Out A B) := by
    rw [← whole_rows]; exact Entails.of_eq ((tile_all c).o_eq (F := F) (c := c) (q := fullShare) (Out A B)).symm
  rw [fin8] at h2
  rw [bigSepL_append, bigSepL_append, sts_list, bus_list, bigSepL_map, dbu_list]
  iintro ⟨⟨Hl, Hr⟩, H1⟩
  iapply h2
  isplitl [Hl Hr]
  · iapply ((pointsTo_share (PosShare.mem_left_op_right fullShare)).2)
    isplitl [Hl]
    · iapply hl $$ Hl
    iapply hr $$ Hr
  iapply h1 $$ H1

/-! ## The landing buffers -/

theorem univ_hus : (Finset.univ : Finset (Fin 7 × Fin 3)) = hus.toFinset := by decide
theorem hus_nodup : hus.Nodup := by decide
theorem univ_hts : (Finset.univ : Finset (Fin 3 × Fin 3)) = hts.toFinset := by decide
theorem hts_nodup : hts.Nodup := by decide

/-- A whole buffer cut into chunks of any contents. -/
theorem cut {ι : Type} [Fintype ι] [DecidableEq ι] {ℓ : Loc nD τ sig} (S : ι → Finset (Idx ℓ)) (hd : ∀ j ∈ Finset.univ, ∀ j' ∈ Finset.univ, j ≠ j' → Disjoint (S j) (S j'))
    (hu : Finset.univ.biUnion S = Finset.univ) :
    (iprop(∃ f : Buf (Elt F) ℓ, ℓ ↦[Finset.univ]{fullShare} f) : sProp 𝕄) ⊢ bigSep Finset.univ fun j => iprop(∃ f : Buf (Elt F) ℓ, ℓ ↦[S j]{fullShare} f) := by
  have h (f : Buf (Elt F) ℓ) (j : ι) : (ℓ ↦[S j]{fullShare} f : sProp 𝕄) ⊢ iprop(∃ f : Buf (Elt F) ℓ, ℓ ↦[S j]{fullShare} f) := by
    iintro H; iexists f; iexact H
  iintro ⟨%f, H⟩
  have h2 : (ℓ ↦[Finset.univ]{fullShare} f : sProp 𝕄) ⊢ bigSep Finset.univ fun j => iprop(∃ f : Buf (Elt F) ℓ, ℓ ↦[S j]{fullShare} f) := by
    rw [← hu, pointsTo_biUnion _ _ hd]; exact bigSep_mono fun j _ => h f j
  iapply h2 $$ H

/-- And put together again. -/
theorem paste {ι : Type} [Fintype ι] [DecidableEq ι] {ℓ : Loc nD τ sig} (z : Buf (Elt F) ℓ) (S : ι → Finset (Idx ℓ)) (hd : ∀ j ∈ Finset.univ, ∀ j' ∈ Finset.univ, j ≠ j' → Disjoint (S j) (S j'))
    (hu : Finset.univ.biUnion S = Finset.univ) :
    (bigSep Finset.univ fun j => iprop(∃ f : Buf (Elt F) ℓ, ℓ ↦[S j]{fullShare} f)) ⊢ (iprop(∃ f : Buf (Elt F) ℓ, ℓ ↦[Finset.univ]{fullShare} f) : sProp 𝕄) := by
  classical
  haveI : Nonempty (Buf (Elt F) ℓ) := ⟨z⟩
  have h (fs : ι → Buf (Elt F) ℓ) : (bigSep Finset.univ fun j => (ℓ ↦[S j]{fullShare} fs j : sProp 𝕄)) ⊢ iprop(∃ f : Buf (Elt F) ℓ, ℓ ↦[Finset.univ]{fullShare} f) := by
    rw [← hu]
    iintro H
    ihave Hj := (pointsTo_biUnion_join (ℓ := ℓ) (q := fullShare) Finset.univ S fs z hd) $$ H
    icases Hj with ⟨%X, -, H⟩
    iexists X
    iexact H
  exact (bigSep_exists_pi Finset.univ _).trans (exists_elim h)

theorem mem_rect1 (h : Fin 7) (u : Fin 3) (i : S7x3x32x1536.Idx) : Iff (i ∈ (rect1 h u).set) ((i 0).val = h.val ∧ (i 1).val = u.val) := by
  rw [Rect.mem_set_unit]
  constructor
  · intro hi
    have h0 := hi 0; have h1 := hi 1
    change h.val ≤ (i 0).val ∧ (i 0).val < h.val + 1 at h0
    change u.val ≤ (i 1).val ∧ (i 1).val < u.val + 1 at h1
    omega
  · intro hi a
    match a with
    | ⟨0, _⟩ => show h.val ≤ (i 0).val ∧ (i 0).val < h.val + 1; omega
    | ⟨1, _⟩ => show u.val ≤ (i 1).val ∧ (i 1).val < u.val + 1; omega
    | ⟨2, _⟩ => exact ⟨Nat.zero_le _, by show (i 2).val < 0 + 32; have : (i 2).val < 32 := (i 2).isLt; omega⟩
    | ⟨3, _⟩ => exact ⟨Nat.zero_le _, by show (i 3).val < 0 + 1536; have : (i 3).val < 1536 := (i 3).isLt; omega⟩
theorem mem_rect2 (h t : Fin 3) (i : S3x3x16x1536.Idx) : Iff (i ∈ (rect2 h t).set) ((i 0).val = h.val ∧ (i 1).val = t.val) := by
  rw [Rect.mem_set_unit]
  constructor
  · intro hi
    have h0 := hi 0; have h1 := hi 1
    change h.val ≤ (i 0).val ∧ (i 0).val < h.val + 1 at h0
    change t.val ≤ (i 1).val ∧ (i 1).val < t.val + 1 at h1
    omega
  · intro hi a
    match a with
    | ⟨0, _⟩ => show h.val ≤ (i 0).val ∧ (i 0).val < h.val + 1; omega
    | ⟨1, _⟩ => show t.val ≤ (i 1).val ∧ (i 1).val < t.val + 1; omega
    | ⟨2, _⟩ => exact ⟨Nat.zero_le _, by show (i 2).val < 0 + 16; have : (i 2).val < 16 := (i 2).isLt; omega⟩
    | ⟨3, _⟩ => exact ⟨Nat.zero_le _, by show (i 3).val < 0 + 1536; have : (i 3).val < 1536 := (i 3).isLt; omega⟩

theorem rect1_apart (x y : Fin 7 × Fin 3) (hne : x ≠ y) : Disjoint (rect1 x.1 x.2).set (rect1 y.1 y.2).set := by
  refine Finset.disjoint_left.mpr fun i hi hi' => hne ?_
  rw [mem_rect1] at hi hi'
  exact Prod.ext (Fin.ext (hi.1.symm.trans hi'.1)) (Fin.ext (hi.2.symm.trans hi'.2))
theorem rect2_apart (x y : Fin 3 × Fin 3) (hne : x ≠ y) : Disjoint (rect2 x.1 x.2).set (rect2 y.1 y.2).set := by
  refine Finset.disjoint_left.mpr fun i hi hi' => hne ?_
  rw [mem_rect2] at hi hi'
  exact Prod.ext (Fin.ext (hi.1.symm.trans hi'.1)) (Fin.ext (hi.2.symm.trans hi'.2))
theorem rect1_all : (Finset.univ : Finset (Fin 7 × Fin 3)).biUnion (fun x => (rect1 x.1 x.2).set) = Finset.univ := by
  ext i
  refine ⟨fun _ => Finset.mem_univ _, fun _ => Finset.mem_biUnion.mpr ⟨(i 0, i 1), Finset.mem_univ _, ?_⟩⟩
  exact (mem_rect1 _ _ _).mpr ⟨rfl, rfl⟩
theorem rect2_all : (Finset.univ : Finset (Fin 3 × Fin 3)).biUnion (fun x => (rect2 x.1 x.2).set) = Finset.univ := by
  ext i
  refine ⟨fun _ => Finset.mem_univ _, fun _ => Finset.mem_biUnion.mpr ⟨(i 0, i 1), Finset.mem_univ _, ?_⟩⟩
  exact (mem_rect2 _ _ _).mpr ⟨rfl, rfl⟩

theorem rC_any_false (h : Fin 7) (u : Fin 3) : anyP (F := F) c (rC false h u)
    = iprop(∃ f : Buf (Elt F) ((c : Thread nD τ).loc cc0_scratch1), (c : Thread nD τ).loc cc0_scratch1 ↦[(rect1 h u).set]{fullShare} f) :=
  congrArg (fun S => (iprop(∃ f : Buf (Elt F) ((c : Thread nD τ).loc cc0_scratch1), (c : Thread nD τ).loc cc0_scratch1 ↦[S]{fullShare} f) : sProp 𝕄))
    ((View.set_reshape _ _).trans (View.set_slice_whole cc0_scratch1 _))
theorem rC_any_true (h : Fin 7) (u : Fin 3) : anyP (F := F) c (rC true h u)
    = iprop(∃ f : Buf (Elt F) ((c : Thread nD τ).loc cc0_scratch2), (c : Thread nD τ).loc cc0_scratch2 ↦[(rect1 h u).set]{fullShare} f) :=
  congrArg (fun S => (iprop(∃ f : Buf (Elt F) ((c : Thread nD τ).loc cc0_scratch2), (c : Thread nD τ).loc cc0_scratch2 ↦[S]{fullShare} f) : sProp 𝕄))
    ((View.set_reshape _ _).trans (View.set_slice_whole cc0_scratch2 _))
theorem r2C_any (h t : Fin 3) : anyP (F := F) c (r2C h t)
    = iprop(∃ f : Buf (Elt F) ((c : Thread nD τ).loc cc0_scratch3), (c : Thread nD τ).loc cc0_scratch3 ↦[(rect2 h t).set]{fullShare} f) :=
  congrArg (fun S => (iprop(∃ f : Buf (Elt F) ((c : Thread nD τ).loc cc0_scratch3), (c : Thread nD τ).loc cc0_scratch3 ↦[S]{fullShare} f) : sProp 𝕄))
    ((View.set_reshape _ _).trans (View.set_slice_whole cc0_scratch3 _))

theorem r_init_false : (iprop(∃ f : Buf (Elt F) ((c : Thread nD τ).loc cc0_scratch1), (c : Thread nD τ).loc cc0_scratch1 ↦{fullShare} f) : sProp 𝕄)
    ⊢ bigSepL (hus.map fun x => mine (rs1 false x.1 x.2)) (res A B c) := by
  rw [bigSepL_map, ← bigSep_univ_eq_bigSepL hus univ_hus hus_nodup]
  refine (cut (ℓ := (c : Thread nD τ).loc cc0_scratch1) (fun x : Fin 7 × Fin 3 => (rect1 x.1 x.2).set) (fun x _ y _ h => rect1_apart x y h) rect1_all).trans (bigSep_mono fun x _ => ?_)
  rw [mine_eq]; exact Entails.of_eq (rC_any_false c x.1 x.2).symm
theorem r_init_true : (iprop(∃ f : Buf (Elt F) ((c : Thread nD τ).loc cc0_scratch2), (c : Thread nD τ).loc cc0_scratch2 ↦{fullShare} f) : sProp 𝕄)
    ⊢ bigSepL (hus.map fun x => mine (rs1 true x.1 x.2)) (res A B c) := by
  rw [bigSepL_map, ← bigSep_univ_eq_bigSepL hus univ_hus hus_nodup]
  refine (cut (ℓ := (c : Thread nD τ).loc cc0_scratch2) (fun x : Fin 7 × Fin 3 => (rect1 x.1 x.2).set) (fun x _ y _ h => rect1_apart x y h) rect1_all).trans (bigSep_mono fun x _ => ?_)
  rw [mine_eq]; exact Entails.of_eq (rC_any_true c x.1 x.2).symm
theorem r2_init : (iprop(∃ f : Buf (Elt F) ((c : Thread nD τ).loc cc0_scratch3), (c : Thread nD τ).loc cc0_scratch3 ↦{fullShare} f) : sProp 𝕄)
    ⊢ bigSepL (hts.map fun x => mine (rs2 x.1 x.2)) (res A B c) := by
  rw [bigSepL_map, ← bigSep_univ_eq_bigSepL hts univ_hts hts_nodup]
  refine (cut (ℓ := (c : Thread nD τ).loc cc0_scratch3) (fun x : Fin 3 × Fin 3 => (rect2 x.1 x.2).set) (fun x _ y _ h => rect2_apart x y h) rect2_all).trans (bigSep_mono fun x _ => ?_)
  rw [mine_eq]; exact Entails.of_eq (r2C_any c x.1 x.2).symm

/-- What is left of a landing chunk is the chunk at some contents. -/
theorem left_any1 (b : Bool) (h : Fin 7) (u : Fin 3) : res A B c (left (rs1 b h u)) ⊢ anyP (F := F) c (rC b h u) := by
  show res A B c (if h.val < 6 then acc (rs1 b h u) else land (rs1 b h u)) ⊢ _
  split
  · exact own_any c (rC b h u) _
  · exact own_any c (rC b h u) _
theorem left_any2 (h t : Fin 3) : res A B c (left (rs2 h t)) ⊢ anyP (F := F) c (r2C h t) := by
  show res A B c (if h.val < 2 then acc (rs2 h t) else land (rs2 h t)) ⊢ _
  split
  · exact own_any c (r2C h t) _
  · exact own_any c (r2C h t) _

theorem r_final_false (z : Buf (Elt F) ((c : Thread nD τ).loc cc0_scratch1)) : bigSepL (hus.map fun x => left (rs1 false x.1 x.2)) (res A B c)
    ⊢ (iprop(∃ f : Buf (Elt F) ((c : Thread nD τ).loc cc0_scratch1), (c : Thread nD τ).loc cc0_scratch1 ↦{fullShare} f) : sProp 𝕄) := by
  rw [bigSepL_map, ← bigSep_univ_eq_bigSepL hus univ_hus hus_nodup]
  refine BIBase.Entails.trans (bigSep_mono fun x _ => ?_) (paste (ℓ := (c : Thread nD τ).loc cc0_scratch1) z (fun x : Fin 7 × Fin 3 => (rect1 x.1 x.2).set) (fun x _ y _ h => rect1_apart x y h) rect1_all)
  exact (left_any1 A B c false x.1 x.2).trans (Entails.of_eq (rC_any_false c x.1 x.2))
theorem r_final_true (z : Buf (Elt F) ((c : Thread nD τ).loc cc0_scratch2)) : bigSepL (hus.map fun x => left (rs1 true x.1 x.2)) (res A B c)
    ⊢ (iprop(∃ f : Buf (Elt F) ((c : Thread nD τ).loc cc0_scratch2), (c : Thread nD τ).loc cc0_scratch2 ↦{fullShare} f) : sProp 𝕄) := by
  rw [bigSepL_map, ← bigSep_univ_eq_bigSepL hus univ_hus hus_nodup]
  refine BIBase.Entails.trans (bigSep_mono fun x _ => ?_) (paste (ℓ := (c : Thread nD τ).loc cc0_scratch2) z (fun x : Fin 7 × Fin 3 => (rect1 x.1 x.2).set) (fun x _ y _ h => rect1_apart x y h) rect1_all)
  exact (left_any1 A B c true x.1 x.2).trans (Entails.of_eq (rC_any_true c x.1 x.2))
theorem r2_final (z : Buf (Elt F) ((c : Thread nD τ).loc cc0_scratch3)) : bigSepL (hts.map fun x => left (rs2 x.1 x.2)) (res A B c)
    ⊢ (iprop(∃ f : Buf (Elt F) ((c : Thread nD τ).loc cc0_scratch3), (c : Thread nD τ).loc cc0_scratch3 ↦{fullShare} f) : sProp 𝕄) := by
  rw [bigSepL_map, ← bigSep_univ_eq_bigSepL hts univ_hts hts_nodup]
  refine BIBase.Entails.trans (bigSep_mono fun x _ => ?_) (paste (ℓ := (c : Thread nD τ).loc cc0_scratch3) z (fun x : Fin 3 × Fin 3 => (rect2 x.1 x.2).set) (fun x _ y _ h => rect2_apart x y h) rect2_all)
  exact (left_any2 A B c x.1 x.2).trans (Entails.of_eq (r2C_any c x.1 x.2))

end

end Cert.KernelIdeal.Machine
-- ==== Proof.Body.lean ====
/- The body, from what a device is dealt at the launch to what it hands back. -/
module

public import proofs.«01_k».proof.Proof.Buffers
public import proofs.«01_k».proof.Proof.Gen.KernelIdeal.Points

@[expose] public section

noncomputable section

namespace Cert.KernelIdeal.Machine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen
open Cp Res

variable {F : FTy → Type} [FloatOps F]

local notation "𝕄" => MT nD τ sig Unit (Elt F) ℕ UU ℕ

abbrev bP (c : Dev nD) (X : Mat F 768 1536) : sProp 𝕄 := bM.view.loc (c : Thread nD τ) ↦[Finset.univ]{fullShare} X

theorem zero_off : (![0, 0] : Fin 2 → Nat) = fun _ => 0 := funext fun a => by fin_cases a <;> rfl

/-- The load of the second operand. -/
theorem wp_load_b (c : Dev nD) (X : Mat F 768 1536)
    {hl : bM.view.LoadsAt (Rect.unit (s := S768x1536) ![0, 0] S768x1536.size inb_S768x1536_S768x1536_0_0).toLoadRect}
    {k : (S768x1536.Idx → Elt F .bf16) → P F} {Q : PUnit → sProp 𝕄} :
    bP c X ⊢ iprop((bP c X -∗ wpc c (k X) Q)
      -∗ wpc c (.op (.load bM (Rect.unit (s := S768x1536) ![0, 0] S768x1536.size inb_S768x1536_S768x1536_0_0).toLoadRect hl) k) Q) := by
  have hw := wp_load (Γ := PendingWaitsCtx.empty) (Ix := Unit) (Name := ℕ) (U := UU) (Lvl := ℕ) (defs := defs₀ (F := F)) (Q := Q) 𝒱₀ (c : Thread nD τ) none Set.univ (m := bM)
    (r := (Rect.unit (s := S768x1536) ![0, 0] S768x1536.size inb_S768x1536_S768x1536_0_0).toLoadRect) (hl := hl) (k := k) (S := Finset.univ) (q := fullShare) (f := X)
    (Finset.subset_univ _)
  rw [show bM.view.readAt (Elt F) (Rect.unit (s := S768x1536) ![0, 0] S768x1536.size inb_S768x1536_S768x1536_0_0).toLoadRect X = X from
    Memref.readAt_unit_zero (Elt F) cc0_stg1_0 zero_off _ X] at hw
  exact hw

/-- The scratch buffers, each at some contents. -/
def scr (c : Dev nD) : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f))

section
variable (A : Dev nD → Mat F 1536 768) (B : Dev nD → Mat F 768 1536) (K : Dev nD × Ck → ℕ) (c : Dev nD)

theorem init_all : iprop(bigSepL tokL (res A B c) ∗ scr (F := F) c ∗ aP c (A c) ∗ (∃ X : Mat F 1536 1536, oP c Finset.univ fullShare X))
    ⊢ bigSepL initL (res A B c) := by
  have hp := p_init A B c
  have ho := o_init A B c
  have h1 := r_init_false A B c
  have h2 := r_init_true A B c
  have h3 := r2_init A B c
  unfold scr initL
  rw [bigSepL_append, bigSepL_append, bigSepL_append, bigSepL_append, bigSepL_append, bigSepL_cons']
  iintro ⟨Ht, ⟨Hp, H1, H2, H3⟩, Ha, Ho⟩
  isplitr [H3]; swap; · iapply h3 $$ H3
  isplitr [H2]; swap; · iapply h2 $$ H2
  isplitr [H1]; swap; · iapply h1 $$ H1
  isplitr [Ho]; swap; · iapply ho $$ Ho
  isplitr [Hp]; swap; · iapply hp $$ Hp
  isplitl [Ha]; · iapply (Entails.of_eq (show aP c (A c) = res A B c xa from rfl)) $$ Ha
  iexact Ht

theorem final_all (z1 : Buf (Elt F) ((c : Thread nD τ).loc cc0_scratch1)) (z2 : Buf (Elt F) ((c : Thread nD τ).loc cc0_scratch2)) (z3 : Buf (Elt F) ((c : Thread nD τ).loc cc0_scratch3)) :
    bigSepL finalL (res A B c) ⊢ iprop(bigSepL zeroL (res A B c) ∗ scr (F := F) c ∗ aP c (A c) ∗ oP c Finset.univ fullShare (Out A B)) := by
  have hp := p_final A B c
  have ho := o_final A B c
  have h1 := r_final_false A B c z1
  have h2 := r_final_true A B c z2
  have h3 := r2_final A B c z3
  unfold scr finalL
  rw [bigSepL_append, bigSepL_append, bigSepL_append, bigSepL_append, bigSepL_append, bigSepL_cons']
  iintro ⟨⟨⟨⟨⟨⟨Ha, Hz⟩, Hp⟩, Ho⟩, H1⟩, H2⟩, H3⟩
  isplitl [Hz]; · iexact Hz
  isplitl [Hp H1 H2 H3]
  · isplitl [Hp]; · iapply hp $$ Hp
    isplitl [H1]; · iapply h1 $$ H1
    isplitl [H2]; · iapply h2 $$ H2
    iapply h3 $$ H3
  isplitl [Ha]; · iapply (Entails.of_eq (show res A B c xa = aP c (A c) from rfl)) $$ Ha
  iapply ho $$ Ho

/-- The body computes the result and leaves every semaphore at zero. -/
theorem body_wp (W : Waits sig Unit) (Q : PUnit → sProp 𝕄) :
    iprop(ctx A B K ∗ (bigSepL tokL (res A B c) ∗ scr (F := F) c ∗ aP c (A c) ∗ (∃ X : Mat F 1536 1536, oP c Finset.univ fullShare X))
      ∗ bP c (B c) ∗ owes (c : Thread nD τ) (owedL c (sigs ++ body)) W
      ∗ (∀ W' : Waits sig Unit, (bigSepL finalL (res A B c) ∗ bP c (B c) ∗ owes (c : Thread nD τ) 0 W') -∗ Q ⟨⟩))
    ⊢ wpc c prog Q := by
  obtain ⟨S1, S2, S3, e1, e2, e3⟩ := exec_final
  have hi := init_all A B c
  have hput := St_put (res A B c) initL 0
  have h0 := St_zero (res A B c)
  have htake := St_take (res A B c) finalL S2 S3 e3
  have r1 := run_sound A B K c (constant S768x1536 .bf16 0#16) body
    (.op (.load bM (Rect.unit (s := S768x1536) ![0, 0] S768x1536.size inb_S768x1536_S768x1536_0_0).toLoadRect (View.loadsAt_vmem h_S768x1536)) fun v =>
      run c (k0_pay1 v) body (.ret ⟨⟩)) Q sigs (put 0 initL) S1 W e1 (by
        intro x hx
        obtain ⟨n, -, rfl⟩ := List.mem_map.mp (show x ∈ ([0, 1, 2, 3] : List (Fin 4)).map Ins.sig from hx)
        exact good_sig A B K c _ n)
  have r2 := fun W' => run_sound A B K c (k0_pay1 (B c)) [] (.ret ⟨⟩) Q body S1 S2 W' (by exact e2) fun x _ => good A B K c x
  unfold prog
  show _ ⊢ wp frame (wpE (defs₀ (F := F)) 𝒱₀ (c : Thread nD τ) none) Set.univ _ Q
  rw [wp_deviceId]
  iintro ⟨#Hc, Hin, Hb, Ho, Hk⟩
  iapply r1
  isplitr; · iexact Hc
  isplitl [Hin]
  · iapply hput
    isplitl
    · iapply hi $$ Hin
    iapply h0
    iempintro
  isplitl [Ho]; · iexact Ho
  iintro %W1
  iintro ⟨HS, Ho⟩
  iapply (wp_load_b c (B c)) $$ Hb
  iintro Hb
  iapply (r2 W1)
  isplitr; · iexact Hc
  isplitl [HS]; · iexact HS
  isplitl [Ho]
  · iapply (Entails.of_eq (show owes (c : Thread nD τ) (owedL c body) W1 = owes (c : Thread nD τ) (owedL c (body ++ [])) W1 by rw [List.append_nil])) $$ Ho
  iintro %W2
  iintro ⟨HS, Ho⟩
  rw [show wpc c (.ret ⟨⟩ : P F) Q = iprop(|={Set.univ}=> Q ⟨⟩) from wp_ret _ _ _ _ _]
  imodintro
  iapply Hk
  ihave H := htake $$ HS
  icases H with ⟨H, -⟩
  isplitl [H]; · iexact H
  isplitl [Hb]; · iexact Hb
  iexact Ho

end

/-! ## The region's proof data -/

section Data
variable (m : (ℓ : Loc nD τ sig) → Buf (Elt F) ℓ) (ρ : Dev nD → PrngReg)

/-- A device's operands as staged. -/
def iA (c : Dev nD) : Mat F 1536 768 := (win0_0.blk t0_0).view.read (Elt F) (m ((c : Thread nD τ).loc main_arg0))
def iB (c : Dev nD) : Mat F 768 1536 := (win0_1.blk t0_0).view.read (Elt F) (m ((c : Thread nD τ).loc main_arg1))

/-- What a device's body starts from besides its buffers. -/
def start (c : Dev nD) : sProp 𝕄 :=
  iprop((∃ K, records (iA m) (iB m) K) ∗ levAts L lv ∗ bigSepL tokL (res (iA m) (iB m) c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => iA m c
    | ⟨1, _⟩ => iB m c
    | ⟨2, _⟩ => Out (iA m) (iB m)
  Φ t := match t with
    | ⟨0, _⟩ => iprop(start m c ∗ scr (F := F) c)
    | ⟨_ + 1, _⟩ => iprop(bigSepL zeroL (res (iA m) (iB m) c) ∗ scr (F := F) c)
  q _ := fullShare
  owed t := match t with
    | ⟨0, _⟩ => owedL c (sigs ++ body)
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((start m c ∗ scr (F := F) c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop((bigSepL zeroL (res (iA m) (iB m) c) ∗ scr (F := F) c) ∗ (dats m ρ 0 c).owesAt () t0_0.succ
    ∗ stg c cc0_stg0_0 (iA m c) ∗ stg c cc0_stg1_0 (iB m c) ∗ stg c cc0_stg2_0 (Out (iA m) (iB m)))

theorem before0 (c : Dev nD) (d) : (dats m ρ 0 c).before (0 : Fin 3) t0_0 d = iA m c := by
  unfold Dat.before; rw [if_pos (fetch0_0 t0_0)]; rfl
theorem before1 (c : Dev nD) (d) : (dats m ρ 0 c).before (1 : Fin 3) t0_0 d = iB m c := by
  unfold Dat.before; rw [if_pos (fetch0_1 t0_0)]; rfl

theorem sound_body (c : Dev nD) : bodyPre m ρ c ⊢ wpc c prog fun _ => bodyPost m ρ c := by
  unfold bodyPre start Dat.owesAt Pipeline.owesWithin
  iintro ⟨⟨⟨⟨%K, Hrec⟩, Hlev, Ht⟩, Hs⟩, ⟨%W, %hW, Ho⟩, ⟨%d0, %g0, %hg0, Ha⟩, ⟨%d1, %g1, %hg1, Hb⟩, ⟨%d2, %g2, %hg2, Hx⟩⟩
  have e0 : g0 = iA m c := hg0.trans (before0 m ρ c d0)
  have e1 : g1 = iB m c := hg1.trans (before1 m ρ c d1)
  subst e0; subst e1
  unfold scr
  icases Hs with ⟨⟨%f0, H0⟩, ⟨%f1, H1⟩, ⟨%f2, H2⟩, ⟨%f3, H3⟩⟩
  iapply (body_wp (iA m) (iB m) K c W fun _ => bodyPost m ρ c)
  isplitl [Hrec Hlev]
  · unfold ctx
    isplitl [Hrec] <;> iassumption
  isplitl [Ht H0 H1 H2 H3 Ha Hx]
  · isplitl [Ht]; · iexact Ht
    isplitl [H0 H1 H2 H3]
    · unfold scr
      isplitl [H0]; · iexists f0; iexact H0
      isplitl [H1]; · iexists f1; iexact H1
      isplitl [H2]; · iexists f2; iexact H2
      iexists f3; iexact H3
    isplitl [Ha]; · iexact Ha
    iexists g2; iexact Hx
  isplitl [Hb]; · iexact Hb
  isplitl [Ho]; · iexact Ho
  iintro %W'
  iintro ⟨H, Hb, Ho⟩
  ihave H := (final_all (iA m) (iB m) c f1 f2 f3) $$ H
  icases H with ⟨Hz, Hs, Ha, Hx⟩
  unfold bodyPost Dat.owesAt Pipeline.owesWithin
  isplitl [Hz Hs]
  · isplitl [Hz] <;> iassumption
  isplitl [Ho]
  · iexists W'
    isplitr; · ipureintro; exact fun _ _ => Or.inl trivial
    iexact Ho
  isplitl [Ha]
  · iexists _; isplitr; · (ipureintro; rfl)
    iexact Ha
  isplitl [Hb]
  · iexists _; isplitr; · (ipureintro; rfl)
    iexact Hb
  iexists _; isplitr; · (ipureintro; rfl)
  iexact Hx

theorem body_at : (defs₀ (F := F) Proc.tc 0 (t0_0, cfg0.slots t0_0)) = prog :=
  (show (defs₀ (F := F) Proc.tc 0 (t0_0, cfg0.slots t0_0)) = bodyAt0 t0_0 from rfl).trans body_eq

/-- The region's body at its one point. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  refine BIBase.Entails.trans (Q := bodyPre m ρ c) BIBase.Entails.rfl ?_
  have h := sound_body m ρ c
  rw [← body_at] at h
  generalize defs₀ (F := F) Proc.tc 0 (t0_0, cfg0.slots t0_0) = k at h ⊢
  exact h

end Data

end Cert.KernelIdeal.Machine
-- ==== Proof.Run.lean ====
/- The launch: the cells dealt out, the run of the whole program from any memory. -/
module

public import proofs.«01_k».proof.Proof.Body

@[expose] public section

noncomputable section

namespace Cert.KernelIdeal.Machine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen
open Cp Res

variable {F : FTy → Type} [FloatOps F]

local notation "𝕄" => MT nD τ sig Unit (Elt F) ℕ UU ℕ

/-! ## The semaphores -/

/-- The kernel's own semaphores: each copy's departure and arrival. -/
abbrev osem (x : Bool × Cp) : SemLoc sig := .dma (dsem x.1 x.2)

theorem osem_injective : Function.Injective osem := fun x y h => by
  have h2 : csem (some x) = csem (some y) := h
  have h3 : some (some x) = some (some y) := by rw [← kindOf_csem, h2, kindOf_csem]
  cases h3; rfl

theorem osem_scoped : ∀ k : Bool × Cp, (osem k).isScoped .tc = true := by decide +kernel

/-- The staging semaphores are none of the protocol's. -/
theorem stage_kind : ∀ (w : Fin cfg0.W) (s : Fin (cfg0.spec w).nbuf), kindOf (.dma ((cfg0.spec w).sem s)) = none := by decide

theorem ownSemFacts : Pipeline.OwnSemFacts cfg0.spec osem where
  isScoped := osem_scoped
  inj := osem_injective
  disj k w s h := by
    have h1 : kindOf (osem k) = some (some k) := kindOf_csem (some k)
    rw [h, stage_kind] at h1
    cases h1

theorem sep_swap (X Y : sProp 𝕄) : BI.sep X Y = BI.sep Y X :=
  (Idealize.SL.BI.sep_comm).antisymm Idealize.SL.BI.sep_comm

theorem fin_bool (Φ : Bool → sProp 𝕄) : bigSep Finset.univ Φ = iprop(Φ false ∗ Φ true) :=
  bigSep_univ_eq_bigSepL [false, true] (by decide) (by decide) Φ

theorem fin_pairs (Φ : Bool × Cp → sProp 𝕄) :
    bigSep Finset.univ Φ = iprop((bigSep Finset.univ fun i => Φ (false, i)) ∗ bigSep Finset.univ fun i => Φ (true, i)) := by
  rw [bigSep_univ_prod, fin_bool]

theorem fin_cells (Φ : Ck → sProp 𝕄) : bigSep Finset.univ Φ = iprop(Φ none ∗ bigSep Finset.univ fun x => Φ (some x)) := by
  rw [bigSep_univ_equiv (Equiv.optionEquivSumPUnit (Bool × Cp) : Option (Bool × Cp) ≃ (Bool × Cp) ⊕ PUnit.{1}).symm Φ, bigSep_univ_sum, bigSep_univ_of_subsingleton PUnit.unit]
  exact sep_swap _ _

theorem ownSems0_eq (c : Dev nD) : (Pipeline.ownSems0 (Ix := Unit) (Name := ℕ) (U := UU) (Lvl := ℕ) (Val := Elt F) (τ := τ) osem c : sProp 𝕄)
    = bigSep Finset.univ fun x : Bool × Cp => semVal (kcell (c, some x)) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  rw [ownSems0_eq, unscopedSems0_eq, fin_cells]
  iintro ⟨HS, HB⟩
  isplitl [HB]; · iexact HB
  iexact HS

/-! ## The cells and their tokens -/

def ringCells : Finset (GSem nD τ sig) := Finset.univ.map ⟨kcell, kcell_injective⟩

/-- A device's cells' duties: one per neighbour at the barrier, one at each departure and arrival. -/
abbrev Dk : Type := Fin 4 ⊕ (Bool × Cp)
abbrev tokOf (cj : Dev nD × Dk) : GSem nD τ sig × ℕ × Fin 4 := match cj.2 with
  | .inl n => (kcell (cj.1, none), 0, n)
  | .inr x => (kcell (cj.1, some x), 0, 0)
theorem tokOf_injective : Function.Injective (tokOf : Dev nD × Dk → GSem nD τ sig × ℕ × Fin 4) := by
  rintro ⟨c, n | x⟩ ⟨c', n' | x'⟩ h
  · have h1 := kcell_injective (congrArg (fun y : GSem nD τ sig × ℕ × Fin 4 => y.1) h)
    have h2 : n = n' := congrArg (fun y : GSem nD τ sig × ℕ × Fin 4 => y.2.2) h
    cases h1; cases h2; rfl
  · have h1 := kcell_injective (congrArg (fun y : GSem nD τ sig × ℕ × Fin 4 => y.1) h)
    cases h1
  · have h1 := kcell_injective (congrArg (fun y : GSem nD τ sig × ℕ × Fin 4 => y.1) h)
    cases h1
  · have h1 := kcell_injective (congrArg (fun y : GSem nD τ sig × ℕ × Fin 4 => y.1) h)
    cases h1; rfl
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun n : Fin 4 => dutyTok ER (barCell c) 0 n) ∗ (bigSep Finset.univ fun i : Cp => dutyTok ER (sendCell c i) 0 0)
    ∗ bigSep Finset.univ fun i : Cp => dutyTok ER (recvCell c i) 0 0)

section
variable (A : Dev nD → Mat F 1536 768) (B : Dev nD → Mat F 768 1536)

/-- What the launch deals device `c`. -/
def G (c : Dev nD) : sProp 𝕄 :=
  iprop((bigSep Finset.univ fun k : Ck => roundState ER (ringRd A B) (kcell (c, k)) 0)
    ∗ (bigSep Finset.univ fun k : Ck => iprop(atPos ER (kcell (c, k)) 0 ∅ 0 ∗ reached ER (kcell (c, k)) 0)) ∗ toks c)

theorem fund_ring : BI.own (ER (initOf ringCells ringToks)) ⊢ (|==> bigSep Finset.univ (G A B) : sProp 𝕄) := by
  have hX (Φ : GSem nD τ sig → sProp 𝕄) : bigSep ringCells Φ = bigSep Finset.univ fun c : Dev nD => bigSep Finset.univ fun k : Ck => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, fin_pairs]; rfl
  iintro HX
  imod (Rounds.fund ER (ringRd A B) ringCells ringToks) $$ HX with ⟨Hst, Hr, Hat, Htok⟩
  imodintro
  ihave Hst' := (Entails.of_eq (hX fun g => roundState ER (ringRd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k => iprop(∃ κ : ℕ, cellInv ER (ringRd A B) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Ck => semVal (kcell (c, k)) 0) ∗ bigSep Finset.univ fun k : Ck => roundState ER (ringRd A B) (kcell (c, k)) 0)
      ⊢ (|={Set.univ}=> bigSep Finset.univ fun k => iprop(∃ κ : ℕ, cellInv ER (ringRd A B) κ (kcell (c, k))) : sProp 𝕄) from by
        rw [← bigSep_sep']
        exact (bigSep_mono fun k _ => (Rounds.body_intro ER (ringRd A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens of the duties device `c` pays. -/
def payToks (c : Dev nD) : sProp 𝕄 :=
  iprop((bigSep Finset.univ fun n : Fin 4 => dutyTok ER (barCell (nb c n)) 0 n) ∗ (bigSep Finset.univ fun i : Cp => dutyTok ER (sendCell c i) 0 0)
    ∗ bigSep Finset.univ fun i : Cp => dutyTok ER (recvCell (nb c (dir i)) i) 0 0)

/-- Going to a neighbour is a bijection of the devices. -/
def going (n : Fin 4) : Dev nD ≃ Dev nD := ⟨fun c => nb c n, fun c => nb c (opp n), fun c => nb_opp c n, fun c => nb_opp' c n⟩

theorem deal {I : Type} [Fintype I] (d : I → Fin 4) (Φ : I → Dev nD → sProp 𝕄) :
    (bigSep Finset.univ fun c : Dev nD => bigSep Finset.univ fun i => Φ i c) = bigSep Finset.univ fun c : Dev nD => bigSep Finset.univ fun i => Φ i (nb c (d i)) := by
  rw [BI.bigSep_univ_comm, BI.bigSep_univ_comm (fun (c : Dev nD) i => Φ i (nb c (d i)))]
  exact bigSep_congr fun i _ => bigSep_univ_equiv (going (d i)) (Φ i)

/-- The tokens dealt to those who pay. -/
theorem toks_around : (bigSep Finset.univ fun c : Dev nD => (toks c : sProp 𝕄)) = bigSep Finset.univ fun c : Dev nD => payToks c := by
  unfold toks payToks
  simp only [bigSep_sep']
  rw [deal (fun n : Fin 4 => n) (fun n c => (dutyTok ER (barCell c) 0 n : sProp 𝕄)), deal dir (fun i c => (dutyTok ER (recvCell c i) 0 0 : sProp 𝕄))]

/-- What stays with device `c`. -/
def linear (c : Dev nD) : sProp 𝕄 := iprop((bigSep Finset.univ fun k : Ck => atPos ER (kcell (c, k)) 0 ∅ 0) ∗ payToks c)

def G' (c : Dev nD) : sProp 𝕄 := iprop(∃ K, records A B K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd A B) κ (kcell (c, k))))
          ∗ (bigSep Finset.univ fun k => iprop(atPos ER (kcell (c, k)) 0 ∅ 0 ∗ reached ER (kcell (c, k)) 0)) ∗ toks c) : sProp 𝕄)
      ⊢ bigSep Finset.univ (G' A B) := by
  rw [bigSep_sep', bigSep_sep', toks_around, ← bigSep_univ_prod (fun ck : Dev nD × Ck => iprop(∃ κ : ℕ, cellInv ER (ringRd A B) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  have hg (K : Dev nD × Ck → ℕ) (c : Dev nD) : iprop(records A B K ∗ linear c) ⊢ G' A B c := by
    unfold G'
    iintro H; iexists K; iexact H
  iintro ⟨HI, ⟨Hat, #HR⟩, Htok⟩
  ihave HK := (BI.bigSep_exists_pi Finset.univ (fun (ck : Dev nD × Ck) (κ : ℕ) => (cellInv ER (ringRd A B) κ (kcell ck) : sProp 𝕄))) $$ HI
  icases HK with ⟨%K, #HI⟩
  iapply (with_persistent (R := records A B K) fun c _ => hg K c)
  isplitr
  · unfold records; isplitl; · iexact HI
    iexact HR
  · unfold linear
    rw [bigSep_sep']
    isplitl [Hat]; · iexact Hat
    iexact Htok

/-- All semaphores of all devices become the protocol's cells at once. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

end

/-! ## The credit -/

/-- What device `c` owes from the start. -/
abbrev O₀ (c : Dev nD) : CellTallies nD τ sig Unit := owedL c (sigs ++ body)

theorem sum_owed (g : GSem nD τ sig) : ∀ l : List Ins, (∑ d : Dev nD, owedL d l g ()) = (l.map fun x => ∑ d : Dev nD, owedI d x g ()).sum
  | [] => Finset.sum_const_zero
  | x :: l => by
    rw [List.map_cons, List.sum_cons, ← sum_owed g l, ← Finset.sum_add_distrib]
    exact Finset.sum_congr rfl fun d _ => by
      show (owedL d l + owedI d x) g () = _
      rw [Pi.add_apply, Finsupp.add_apply, Nat.add_comm]

theorem cell_iff (c d : Dev nD) (k k' : Ck) : Iff (kcell (c, k) = kcell (d, k')) (c = d ∧ k = k') :=
  ⟨fun h => by cases kcell_injective h; exact ⟨rfl, rfl⟩, fun h => by rw [h.1, h.2]⟩

theorem to_iff (c d : Dev nD) (n : Fin 4) : Iff (c = nb d n) (d = nb c (opp n)) :=
  ⟨fun h => by rw [h, nb_opp], fun h => by rw [h, nb_opp']⟩

theorem paid_bar (c : Dev nD) (x : Ins) : (∑ d : Dev nD, owedI d x (barCell c) ()) = match x with | .sig _ => 1 | _ => 0 := by
  cases x with
  | sig n =>
    rw [Finset.sum_congr rfl fun d _ => show owedI d (.sig n) (barCell c) () = if d = nb c (opp n) then 1 else 0 from by
      unfold owedI
      rw [tallyAt_apply]
      refine if_congr ?_ rfl rfl
      rw [show Iff (barCell c = barCell (nb d n)) (c = nb d n ∧ (none : Ck) = none) from cell_iff c (nb d n) none none, to_iff]
      exact ⟨fun h => h.1.1, fun h => ⟨⟨h, rfl⟩, rfl⟩⟩,
      Finset.sum_ite_eq' Finset.univ (nb c (opp n)) fun _ => 1, if_pos (Finset.mem_univ _)]
  | send i =>
    refine Finset.sum_eq_zero fun d _ => ?_
    unfold owedI
    rw [tallyAt_apply, if_neg]
    intro h
    exact absurd ((cell_iff c (nb d (dir i)) none (some (true, i))).mp h.1).2 (by intro h; cases h)
  | _ => exact Finset.sum_const_zero

theorem paid_recv (c : Dev nD) (i : Cp) (x : Ins) : (∑ d : Dev nD, owedI d x (recvCell c i) ()) = if x = .send i then amt i else 0 := by
  cases x with
  | sig n =>
    rw [if_neg (by intro h; cases h)]
    refine Finset.sum_eq_zero fun d _ => ?_
    unfold owedI
    rw [tallyAt_apply, if_neg]
    intro h
    exact absurd ((cell_iff c (nb d n) (some (true, i)) none).mp h.1).2 (by intro h; cases h)
  | send j =>
    by_cases hj : j = i
    · subst hj
      rw [if_pos rfl, Finset.sum_congr rfl fun d _ => show owedI d (.send j) (recvCell c j) () = if d = nb c (opp (dir j)) then amt j else 0 from by
        unfold owedI
        rw [tallyAt_apply]
        refine if_congr ?_ rfl rfl
        rw [show Iff (recvCell c j = recvCell (nb d (dir j)) j) (c = nb d (dir j) ∧ (some (true, j) : Ck) = some (true, j)) from cell_iff c (nb d (dir j)) (some (true, j)) (some (true, j)), to_iff]
        exact ⟨fun h => h.1.1, fun h => ⟨⟨h, rfl⟩, rfl⟩⟩,
        Finset.sum_ite_eq' Finset.univ (nb c (opp (dir j))) fun _ => amt j, if_pos (Finset.mem_univ _)]
    · rw [if_neg (by intro h; cases h; exact hj rfl)]
      refine Finset.sum_eq_zero fun d _ => ?_
      unfold owedI
      rw [tallyAt_apply, if_neg]
      intro h
      have h2 := ((cell_iff c (nb d (dir j)) (some (true, i)) (some (true, j))).mp h.1).2
      cases h2; exact hj rfl
  | _ => rw [if_neg (by intro h; cases h)]; exact Finset.sum_const_zero

theorem count_sum (x : Ins) (a : Nat) : ∀ l : List Ins, (l.map fun y => if y = x then a else 0).sum = l.count x * a
  | [] => (Nat.zero_mul a).symm
  | y :: l => by
    rw [List.map_cons, List.sum_cons, count_sum x a l, List.count_cons]
    by_cases h : y = x
    · rw [if_pos h, if_pos (beq_iff_eq.mpr h), Nat.add_mul, Nat.one_mul, Nat.add_comm]
    · rw [if_neg h, if_neg (fun hb => h (beq_iff_eq.mp hb)), Nat.zero_add, Nat.add_zero]

theorem sends_once : ∀ i : Cp, (sigs ++ body).count (.send i) = 1 := by decide +kernel

theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, sum_owed, List.map_congr_left fun x _ => paid_bar c x]
  decide +kernel

theorem launch_recv (c : Dev nD) (i : Cp) :
    tallyOn (recvCell c i) (launchCredit (Pipeline.owing O₀) 0 (recvCell c i)) = (tallyAt (recvCell c i) () (amt i) : CellTallies nD τ sig Unit) := by
  unfold tallyAt; refine congrArg _ (Finsupp.ext fun u => ?_); cases u
  rw [Pipeline.launchCredit_owing, Finsupp.single_eq_same, sum_owed, List.map_congr_left fun x _ => paid_recv c i x, count_sum, sends_once, Nat.one_mul]

/-- The cells a device waits on for others. -/
def awaitedKey : Option Cp → Ck
  | none => none
  | some i => some (true, i)
def awaited (x : Option Cp) : SemLoc sig := csem (awaitedKey x)
theorem awaited_injective : Function.Injective awaited := fun x y h => by
  have h2 : kindOf (awaited x) = kindOf (awaited y) := congrArg kindOf h
  unfold awaited at h2
  rw [kindOf_csem, kindOf_csem] at h2
  have h3 : awaitedKey x = awaitedKey y := Option.some.inj h2
  cases x <;> cases y <;> cases h3 <;> rfl

theorem creds (c : Dev nD) :
    (Pipeline.launchCred O₀ c : sProp 𝕄) ⊢ iprop(cred (tallyAt (barCell c) () 4) ∗ bigSep Finset.univ fun i : Cp => cred (tallyAt (recvCell c i) () (amt i))) := by
  unfold Pipeline.launchCred
  refine (bigSep_subset (Finset.subset_univ (Finset.univ.map ⟨awaited, awaited_injective⟩))).trans ?_
  rw [bigSep_map, bigSep_univ_equiv (Equiv.optionEquivSumPUnit Cp : Option Cp ≃ Cp ⊕ PUnit.{1}).symm, bigSep_univ_sum, bigSep_univ_of_subsingleton PUnit.unit]
  rw [← launch_bar, bigSep_congr fun i _ => congrArg cred (launch_recv c i).symm]
  exact Entails.of_eq (sep_swap _ _)

end Cert.KernelIdeal.Machine
-- ==== Proof.Main.lean ====
/- The run of the whole program: each device starts with its tokens and credit, and ends with its buffers back. -/
module

public import proofs.«01_k».proof.Proof.Run
public import Idealize.ShloMosaic.Lib.Pipeline.CollectiveSegs

@[expose] public section

noncomputable section

namespace Cert.KernelIdeal.Machine

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open Cert.KernelIdeal.Gen
open Cp Res

variable {F : FTy → Type} [FloatOps F]

local notation "𝕄" => MT nD τ sig Unit (Elt F) ℕ UU ℕ

section
variable (m : (ℓ : Loc nD τ sig) → Buf (Elt F) ℓ) (ρ : Dev nD → PrngReg)

/-- The tokens, credit and positions a device starts with, grouped as the steps take them. -/
theorem tokL_intro (c : Dev nD) :
    iprop(linear c ∗ cred (tallyAt (barCell c) () 4) ∗ bigSep Finset.univ fun i : Cp => cred (tallyAt (recvCell c i) () (amt i)))
      ⊢ (bigSepL tokL (res (iA m) (iB m) c) : sProp 𝕄) := by
  have hb : bigSepL (([0, 1, 2, 3] : List (Fin 4)).map btok) (res (iA m) (iB m) c) = (bigSep Finset.univ fun n : Fin 4 => dutyTok ER (barCell (nb c n)) 0 n : sProp 𝕄) := by
    rw [bigSepL_map, ← bigSep_univ_eq_bigSepL [0, 1, 2, 3] (by decide) (by decide)]; rfl
  have hs : (bigSep Finset.univ fun i : Cp => res (iA m) (iB m) c (stok i))
      = (iprop((bigSep Finset.univ fun i : Cp => dutyTok ER (sendCell c i) 0 0) ∗ (bigSep Finset.univ fun i : Cp => dutyTok ER (recvCell (nb c (dir i)) i) 0 0)
        ∗ bigSep Finset.univ fun i : Cp => atPos ER (sendCell c i) 0 ∅ 0) : sProp 𝕄) := by
    rw [← bigSep_sep', ← bigSep_sep']; rfl
  have hr : (bigSep Finset.univ fun i : Cp => res (iA m) (iB m) c (rtok i))
      = (iprop((bigSep Finset.univ fun i : Cp => cred (tallyAt (recvCell c i) () (amt i))) ∗ bigSep Finset.univ fun i : Cp => atPos ER (recvCell c i) 0 ∅ 0) : sProp 𝕄) := by
    rw [← bigSep_sep']; rfl
  have hw : res (iA m) (iB m) c bwt = (iprop(cred (tallyAt (barCell c) () 4) ∗ atPos ER (barCell c) 0 ∅ 0) : sProp 𝕄) := rfl
  have ha : (bigSep Finset.univ fun k : Ck => atPos ER (kcell (c, k)) 0 ∅ 0)
      = (iprop(atPos ER (barCell c) 0 ∅ 0 ∗ (bigSep Finset.univ fun i : Cp => atPos ER (sendCell c i) 0 ∅ 0) ∗ bigSep Finset.univ fun i : Cp => atPos ER (recvCell c i) 0 ∅ 0) : sProp 𝕄) := by
    rw [fin_cells, fin_pairs]; rfl
  unfold tokL linear payToks
  rw [bigSepL_cons', bigSepL_append, bigSepL_append, hb, cps_list, cps_list, hs, hr, hw, ha]
  iintro ⟨⟨⟨H1, H2, H3⟩, H4, H5, H6⟩, H7, H8⟩
  isplitl [H1 H7]
  · isplitl [H7] <;> iassumption
  isplitl [H2 H4 H5 H6]
  · isplitl [H4]; · iexact H4
    isplitl [H5]; · iexact H5
    isplitl [H6] <;> iassumption
  isplitl [H8] <;> iassumption

theorem start_intro (c : Dev nD) :
    iprop(Pipeline.unscopedRestP Pipeline.Prefetch.none cfg0.spec c (fun b => m ((c : Thread nD τ).loc b)) ∗ levAts L lv ∗ Pipeline.launchCred O₀ c ∗ prngReg c (ρ c) ∗ G' (iA m) (iB m) c)
      ⊢ |={Set.univ}=> iprop(start m c ∗ emp) := by
  unfold G' start
  iintro ⟨-, Hlev, Hcr, -, ⟨%K, Hrec, Hl⟩⟩
  ihave Hc := (creds (F := F) c) $$ Hcr
  imodintro
  isplitl
  · isplitl [Hrec]; · iexists K; iexact Hrec
    isplitl [Hlev]; · iexact Hlev
    iapply (tokL_intro m c)
    isplitl [Hl] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr (F := F) c) from rfl, scopedRest0_eq]
  unfold scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  have hz (r : Bool) : (bigSep Finset.univ fun i : Cp => res (iA m) (iB m) c (zero r i)) = (bigSep Finset.univ fun i : Cp => semVal (dcell c r i) 0 : sProp 𝕄) := rfl
  have hb : res (iA m) (iB m) c bz = (semVal (barCell c) 0 : sProp 𝕄) := rfl
  rw [show (dats m ρ 0 c).Φ (Fin.last cfg0.N) = iprop(bigSepL zeroL (res (iA m) (iB m) c) ∗ scr (F := F) c) from rfl, scopedRest0_eq, ownSems0_eq, unscopedSems0_eq, fin_pairs]
  unfold zeroL scr
  rw [bigSepL_cons', bigSepL_append, cps_list, cps_list, hz, hz, hb]
  iintro ⟨⟨HB, HS, HR⟩, Hr⟩
  isplitl [HB]; · iexact HB
  isplitl [HS HR]
  · isplitl [HS]; · iexact HS
    iexact HR
  iexact Hr

theorem share_eq (c : Dev nD) (w : Fin cfg0.W) : (dats m ρ 0 c).share w = fullShare := by
  unfold Dat.share; split <;> rfl

theorem waits (c : Dev nD) : (levAts L lv : sProp 𝕄) ⊢ Pipeline.cellsWaits cfgs (dats m ρ) () 0 c :=
  Pipeline.cellsWaits_intro cfgs (dats m ρ) () 0 c fun w s t => by
    have h0 : lv (((c : Dev nD) : Thread nD τ), SemLoc.dma ((cfg0.spec w).sem s)) () ≤ 0 := by unfold lv; rw [stage_kind]
    rcases t with ⟨_ | _, ht⟩
    · exact mayWait c _ 0 h0 (sigs ++ body) (by decide +kernel)
    · show (levAts L lv : sProp 𝕄) ⊢ MayWait (c : Thread nD τ) _ () 0
      rw [MayWait_zero]
      iintro -
      iempintro

/-- What array `w` of device `c` holds at the end. -/
def finalA (c : Dev nD) (w : Fin cfg0.W) : Buf (Elt F) ((cfg0.win w).arr.view.loc (c : Thread nD τ)) := (dats m ρ 0 c).arrAt w cfg0.N

set_option maxRecDepth 200000 in
/-- From any memory with all semaphores at zero, every run of the program ends, each device's arrays hold `finalA`,
    and every semaphore is at zero again. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (iA m) (iB m)) (G' := G' (iA m) (iB m)) (u₀ := u₀)
    (hu₀ := by
      unfold u₀
      iintro Hu
      ihave H := (ownU_pair _ _) $$ Hu
      icases H with ⟨HP, HX⟩
      imod (fund_ring (iA m) (iB m)) $$ HX with HG
      imodintro
      isplitl [HP] <;> iassumption)
    (hglob := glob (iA m) (iB m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The first argument is left as it was. -/
theorem finalA_a (c : Dev nD) : finalA m ρ c (0 : Fin 3) = m ((c : Thread nD τ).loc main_arg0) :=
  (dats (F := F) m ρ 0 c).arrAt_in (0 : Fin 3) rfl _

/-- The second argument is left as it was. -/
theorem finalA_b (c : Dev nD) : finalA m ρ c (1 : Fin 3) = m ((c : Thread nD τ).loc main_arg1) :=
  (dats (F := F) m ρ 0 c).arrAt_in (1 : Fin 3) rfl _

/-- The program runs, leaves its arguments and ends with every semaphore at zero. -/
theorem frame_main : θ_run defs (onTc (τ := τ) (main (F := F))) (s₀ m ρ) (fun r =>
    (∀ c : Dev nD, r.2.mem ((c : Thread nD τ).loc main_arg0) = m ((c : Thread nD τ).loc main_arg0) ∧ r.2.mem ((c : Thread nD τ).loc main_arg1) = m ((c : Thread nD τ).loc main_arg1)) ∧ r.2.sem = fun _ => 0) :=
  (θ_run defs _ _).mono (fun _ h => ⟨fun c => ⟨(h.1 c (0 : Fin 3)).trans (finalA_a m ρ c), (h.1 c (1 : Fin 3)).trans (finalA_b m ρ c)⟩, h.2⟩) (run_main m ρ)

end

end Cert.KernelIdeal.Machine
-- ==== Proof.Sums.lean ====
/- The values at exact arithmetic: each entry of the result is the activation of the sum, over all devices, of the
   devices' products. -/
module

public import proofs.«01_k».proof.Proof.Contents
public import Idealize.ShloMosaic.Lib.MatmulPlain
public import Idealize.ShloMosaic.PureOps.Ideal.Laws

@[expose] public section

noncomputable section

namespace Cert.KernelIdeal.Machine

open Idealize.ShloMosaic Idealize.SL.Sem
open Idealize.ShloMosaic.ValueIdx (ix2 eq_ix2 idx2_lt0 idx2_lt1)
open Cert.KernelIdeal.Gen

/-- Entry `n` of row `r`. -/
def ent {w : Nat} (f : Mat Ideal 1536 w) (r : Nat) (n : Fin w) : EReal := f (ix2 ⟨r % 1536, Nat.mod_lt _ (by decide)⟩ n)

theorem ent_val {w : Nat} (f : Mat Ideal 1536 w) (r : Fin 1536) (n : Fin w) : ent f r.val n = f (ix2 r n) :=
  congrArg (fun x => f (ix2 x n)) (Fin.ext (Nat.mod_eq_of_lt r.isLt))

/-- Entry `j` of block `a` of a glued matrix. -/
theorem ent_glue (n : Nat) [NeZero n] (f : Nat → Mat Ideal n 1536) (r : Nat) (hr : r < 1536) (x : Fin 1536) :
    ent (glue n f) r x = f (n * (r / n)) (ix2 ⟨r % n, Nat.mod_lt _ (NeZero.pos n)⟩ x) := by
  have e : r % 1536 = r := Nat.mod_eq_of_lt hr
  show f (n * (r % 1536 / n)) (ix2 ⟨r % 1536 % n, _⟩ x) = _
  congr 1
  · rw [e]
  · exact congrArg (fun y => ix2 y x) (Fin.ext (by show r % 1536 % n = r % n; rw [e]))

section
variable (A : Dev nD → Mat Ideal 1536 768) (B : Dev nD → Mat Ideal 768 1536)

/-- An entry of a device's product. -/
theorem ent_Pm (c : Dev nD) (r : Nat) (hr : r < 1536) (n : Fin 1536) :
    ent (Pm A B c) r n = ∑ k : Fin 768, ent (A c) r k * B c (ix2 k n) := by
  unfold Pm
  rw [ent_glue 192 _ r hr]
  have h := Ideal.matmul_plain_apply (φ₁ := .bf16) (φ₂ := .bf16) none (rows 192 (A c) (192 * (r / 192))) (B c) (constant S192x1536 .f32 0x00000000#32)
    ⟨r % 192, Nat.mod_lt _ (by decide)⟩ n
  have h0 : (constant (F := Ideal) S192x1536 .f32 0x00000000#32) (ix2 ⟨r % 192, Nat.mod_lt _ (by decide)⟩ n) = (0 : EReal) := Ideal.ofBits_zero_f32
  rw [h0, zero_add] at h
  unfold k0_pay2 k0_pay1
  simp only [shapeCast_self]
  refine Eq.trans h ?_
  refine Finset.sum_congr rfl fun k _ => ?_
  have e : 192 * (r / 192) + r % 192 = r := Nat.div_add_mod r 192
  show ent (A c) (192 * (r / 192) + r % 192) k * _ = _
  rw [e]

/-- The place `s` steps on, on a ring of eight. -/
def turn (b : Bool) (q s : Nat) : Nat := (q + cond b s (7 * s)) % 8

/-- The running sums of the first reduce-scatter. -/
theorem v1_sum (b : Bool) (u : Nat) : ∀ (h : Nat) (hh : h ≤ 7) (c : Dev nD) (j : (⟨2, ![32, 1536]⟩ : Shape).Idx),
    v1 A B b u h c j = ∑ s ∈ Finset.range (h + 1), ent (Pm A B (devAt (gOf c) (turn b (qOf c) s))) (prow c (dd b h) b u + (j 0).val) (j 1)
  | 0, _, c, j => by
    rw [Finset.sum_range_one, show turn b (qOf c) 0 = qOf c from by have := qOf_lt c; cases b <;> simp only [turn, cond] <;> omega, devAt_self]
    rfl
  | h + 1, hh, c, j => by
    have hq := qOf_lt c; have hg := gOf_lt c
    rw [Finset.sum_range_succ']
    have e0 : turn b (qOf c) 0 = qOf c := by cases b <;> simp only [turn, cond] <;> omega
    have eg : gOf (nb c (cond b 1 0)) = gOf c := by rw [gOf_nb]; cases b <;> show (gOf c + 0) % 4 = _ <;> omega
    have et (s : Nat) : turn b (qOf (nb c (cond b 1 0))) s = turn b (qOf c) (s + 1) := by
      rw [qOf_nb]
      cases b
      · show ((qOf c + 7) % 8 + 7 * s) % 8 = (qOf c + 7 * (s + 1)) % 8; omega
      · show ((qOf c + 1) % 8 + s) % 8 = (qOf c + (s + 1)) % 8; omega
    have ep : prow (nb c (cond b 1 0)) (dd b h) b u = prow c (dd b (h + 1)) b u := by
      unfold prow
      rw [qOf_nb]
      cases b
      · show 192 * (((qOf c + 7) % 8 + (7 - h)) % 8) + _ = 192 * ((qOf c + (7 - (h + 1))) % 8) + _
        rw [show ((qOf c + 7) % 8 + (7 - h)) % 8 = (qOf c + (7 - (h + 1))) % 8 from by omega]
      · show 192 * (((qOf c + 1) % 8 + (1 + h)) % 8) + _ = 192 * ((qOf c + (1 + (h + 1))) % 8) + _
        rw [show ((qOf c + 1) % 8 + (1 + h)) % 8 = (qOf c + (1 + (h + 1))) % 8 from by omega]
    have ih := v1_sum b u h (by omega) (nb c (cond b 1 0)) j
    simp only [eg, et, ep] at ih
    rw [e0, devAt_self, ← ih]
    rfl

/-- A sum around a ring of eight is the sum over its places. -/
theorem sum_turn (f : Nat → EReal) (b : Bool) (q : Nat) (hq : q < 8) : (∑ s ∈ Finset.range 8, f (turn b q s)) = ∑ p ∈ Finset.range 8, f p := by
  refine Finset.sum_nbij (turn b q) (fun s _ => Finset.mem_range.mpr (Nat.mod_lt _ (by decide))) ?_ ?_ fun _ _ => rfl
  · intro s hs s' hs' h
    have h1 : s < 8 := Finset.mem_range.mp hs
    have h2 : s' < 8 := Finset.mem_range.mp hs'
    have h3 : turn b q s = turn b q s' := h
    cases b <;> simp only [turn, cond] at h3 <;> omega
  · intro p hp
    have h1 : p < 8 := Finset.mem_range.mp hp
    refine ⟨cond b (p + 8 - q) (q + 8 - p) % 8, Finset.mem_coe.mpr (Finset.mem_range.mpr (Nat.mod_lt _ (by decide))), ?_⟩
    cases b <;> simp only [turn, cond] <;> omega

/-- After the first reduce-scatter a device's own slab is the sum over its ring of eight. -/
theorem P2_sum (c : Dev nD) (r : Nat) (hr : r < 1536) (hc : r / 192 = qOf c) (n : Fin 1536) :
    ent (P2 A B c) r n = ∑ p ∈ Finset.range 8, ent (Pm A B (devAt (gOf c) p)) r n := by
  obtain ⟨b, u, hu⟩ : ∃ (b : Bool) (u : Fin 3), prow c 0 b u.val + r % 32 = r := by
    have hq := qOf_lt c
    by_cases h : 96 ≤ r % 192
    · refine ⟨true, ⟨(r % 96) / 32, by omega⟩, ?_⟩
      show 192 * ((qOf c + 0) % 8) + (96 + 32 * ((r % 96) / 32)) + r % 32 = r; omega
    · refine ⟨false, ⟨(r % 96) / 32, by omega⟩, ?_⟩
      show 192 * ((qOf c + 0) % 8) + (0 + 32 * ((r % 96) / 32)) + r % 32 = r; omega
  have e7 : prow c (dd b 7) b u.val = prow c 0 b u.val := by
    have hq := qOf_lt c
    unfold prow
    cases b
    · show 192 * ((qOf c + (7 - 7)) % 8) + _ = 192 * ((qOf c + 0) % 8) + _; rfl
    · show 192 * ((qOf c + (1 + 7)) % 8) + _ = 192 * ((qOf c + 0) % 8) + _
      rw [show (qOf c + (1 + 7)) % 8 = (qOf c + 0) % 8 from by omega]
  have h := congrFun (rows_P2 A B c b u) (ix2 ⟨r % 32, Nat.mod_lt _ (by decide)⟩ n)
  have h7 := v1_sum A B b u.val 7 (Nat.le_refl 7) c (ix2 ⟨r % 32, Nat.mod_lt _ (by decide)⟩ n)
  rw [e7] at h7
  rw [← sum_turn (fun p => ent (Pm A B (devAt (gOf c) p)) r n) b (qOf c) (qOf_lt c)]
  have h7' : v1 A B b u.val 7 c (ix2 ⟨r % 32, Nat.mod_lt _ (by decide)⟩ n)
      = ∑ s ∈ Finset.range 8, ent (Pm A B (devAt (gOf c) (turn b (qOf c) s))) (prow c 0 b u.val + r % 32) n := h7
  have h' : ent (P2 A B c) (prow c 0 b u.val + r % 32) n
      = ent (Pm A B c) (prow c 0 b u.val + r % 32) n + v1 A B b u.val 6 (nb c (cond b 1 0)) (ix2 ⟨r % 32, Nat.mod_lt _ (by decide)⟩ n) := h
  have hs : v1 A B b u.val 7 c (ix2 ⟨r % 32, Nat.mod_lt _ (by decide)⟩ n)
      = v1 A B b u.val 6 (nb c (cond b 1 0)) (ix2 ⟨r % 32, Nat.mod_lt _ (by decide)⟩ n) + ent (Pm A B c) (prow c (dd b 7) b u.val + r % 32) n := rfl
  rw [hs, e7, hu] at h7'
  rw [hu] at h'
  rw [h', ← h7']
  exact add_comm _ _

/-- The running sums of the second reduce-scatter. -/
theorem v2_sum (t : Nat) : ∀ (h : Nat) (hh : h ≤ 3) (c : Dev nD) (j : (⟨2, ![16, 1536]⟩ : Shape).Idx),
    v2 A B t h c j = ∑ s ∈ Finset.range (h + 1), ent (P2 A B (devAt ((gOf c + 3 * s) % 4) (qOf c))) (srow c (3 - h) t + (j 0).val) (j 1)
  | 0, _, c, j => by
    rw [Finset.sum_range_one, show (gOf c + 3 * 0) % 4 = gOf c from by have := gOf_lt c; omega, devAt_self]
    rfl
  | h + 1, hh, c, j => by
    have hq := qOf_lt c; have hg := gOf_lt c
    rw [Finset.sum_range_succ']
    have eq : qOf (nb c 2) = qOf c := by rw [qOf_nb]; show (qOf c + 0) % 8 = _; omega
    have et (s : Nat) : (gOf (nb c 2) + 3 * s) % 4 = (gOf c + 3 * (s + 1)) % 4 := by
      rw [gOf_nb]; show ((gOf c + 3) % 4 + 3 * s) % 4 = _; omega
    have ep : srow (nb c 2) (3 - h) t = srow c (3 - (h + 1)) t := by
      unfold srow
      rw [eq, gOf_nb]
      show 192 * qOf c + (48 * (((gOf c + 3) % 4 + (3 - h)) % 4) + 16 * t) = _
      rw [show ((gOf c + 3) % 4 + (3 - h)) % 4 = (gOf c + (3 - (h + 1))) % 4 from by omega]
    have ih := v2_sum t h (by omega) (nb c 2) j
    simp only [eq, et, ep] at ih
    rw [show (gOf c + 3 * 0) % 4 = gOf c from by omega, devAt_self, ← ih]
    rfl

theorem sum_back (f : Nat → EReal) (g : Nat) (hg : g < 4) : (∑ s ∈ Finset.range 4, f ((g + 3 * s) % 4)) = ∑ p ∈ Finset.range 4, f p := by
  refine Finset.sum_nbij (fun s => (g + 3 * s) % 4) (fun s _ => Finset.mem_range.mpr (Nat.mod_lt _ (by decide))) ?_ ?_ fun _ _ => rfl
  · intro s hs s' hs' h
    have h1 : s < 4 := Finset.mem_range.mp hs
    have h2 : s' < 4 := Finset.mem_range.mp hs'
    have h3 : (g + 3 * s) % 4 = (g + 3 * s') % 4 := h
    omega
  · intro p hp
    have h1 : p < 4 := Finset.mem_range.mp hp
    refine ⟨(g + 4 - p) % 4, Finset.mem_coe.mpr (Finset.mem_range.mpr (Nat.mod_lt _ (by decide))), ?_⟩
    show (g + 3 * ((g + 4 - p) % 4)) % 4 = p
    omega

/-- The sum over both rings is the sum over the devices. -/
theorem sum_devices (f : Dev nD → EReal) : (∑ g ∈ Finset.range 4, ∑ p ∈ Finset.range 8, f (devAt g p)) = ∑ c : Dev nD, f c := by
  rw [← Finset.sum_product']
  refine Finset.sum_nbij' (fun x : Nat × Nat => devAt x.1 x.2) (fun c => (gOf c, qOf c)) ?_ ?_ ?_ ?_ ?_
  · intro x _; exact Finset.mem_univ _
  · intro c _; exact Finset.mem_product.mpr ⟨Finset.mem_range.mpr (gOf_lt c), Finset.mem_range.mpr (qOf_lt c)⟩
  · intro x hx
    have h1 := Finset.mem_range.mp (Finset.mem_product.mp hx).1
    have h2 := Finset.mem_range.mp (Finset.mem_product.mp hx).2
    exact Prod.ext (gOf_devAt h1 h2) (qOf_devAt h1 h2)
  · intro c _; exact devAt_self c
  · intro x _; rfl

/-- The activation. -/
def act (z : EReal) : EReal :=
  Ideal.ofBits .f32 0x3F000000#32 * z
    * (Ideal.ofBits .f32 0x3F800000#32
      + Ideal.tanh (Ideal.ofBits .f32 0x3F4C422A#32 * (z + Ideal.ofBits .f32 0x3D372713#32 * z * z * z)))

theorem gl_apply (w x : Mat Ideal 16 1536) (j : (⟨2, ![16, 1536]⟩ : Shape).Idx) : gl w x j = act ((w j : EReal) + x j) := by
  unfold gl k0_pay65 k0_pay63 k0_pay64 k0_pay62
  simp only [shapeCast_shapeCast]
  rfl

/-- Each entry of the result is the activation of the sum of the devices' products. -/
theorem ent_Out (r : Nat) (hr : r < 1536) (n : Fin 1536) : ent (Out A B) r n = act (∑ c : Dev nD, ent (Pm A B c) r n) := by
  unfold Out
  rw [ent_glue 16 _ r hr, gl_apply]
  have hgq : (16 * (r / 16)) % 192 / 48 < 4 ∧ 16 * (r / 16) / 192 < 8 := by omega
  have hd : 16 * (r / 16) / 192 = r / 192 := by omega
  obtain ⟨g, eg⟩ : ∃ g, g = (16 * (r / 16)) % 192 / 48 := ⟨_, rfl⟩
  obtain ⟨q, eq⟩ : ∃ q, q = 16 * (r / 16) / 192 := ⟨_, rfl⟩
  obtain ⟨t, et⟩ : ∃ t, t = (16 * (r / 16)) % 48 / 16 := ⟨_, rfl⟩
  rw [← eg, ← eq, ← et]
  rw [← eg, ← eq] at hgq
  have hg' := gOf_devAt hgq.1 hgq.2
  have hq' := qOf_devAt hgq.1 hgq.2
  have es : srow (devAt g q) 0 t + r % 16 = r := by unfold srow; rw [hg', hq']; omega
  have e16 : 16 * (r / 16) + r % 16 = r := by omega
  have h3 : v2 A B t 3 (devAt g q) (ix2 ⟨r % 16, Nat.mod_lt _ (by decide)⟩ n)
      = ∑ s ∈ Finset.range 4, ent (P2 A B (devAt ((gOf (devAt g q) + 3 * s) % 4) (qOf (devAt g q)))) (srow (devAt g q) 0 t + r % 16) n :=
    v2_sum A B t 3 (Nat.le_refl 3) (devAt g q) _
  have hs : v2 A B t 3 (devAt g q) (ix2 ⟨r % 16, Nat.mod_lt _ (by decide)⟩ n)
      = v2 A B t 2 (nb (devAt g q) 2) (ix2 ⟨r % 16, Nat.mod_lt _ (by decide)⟩ n) + ent (P2 A B (devAt g q)) (srow (devAt g q) 0 t + r % 16) n := rfl
  rw [hs, hg', hq', es, sum_back (fun p => ent (P2 A B (devAt p q)) r n) g hgq.1] at h3
  refine congrArg act (Eq.trans ?_ (h3.trans ?_))
  · show ent (P2 A B (devAt g q)) (16 * (r / 16) + r % 16) n + _ = _
    rw [e16]
    exact add_comm _ _
  · rw [← sum_devices fun c => ent (Pm A B c) r n]
    refine Finset.sum_congr rfl fun p hp => ?_
    have hp' := Finset.mem_range.mp hp
    rw [P2_sum A B (devAt p q) r hr (by rw [qOf_devAt hp' hgq.2]; omega) n, gOf_devAt hp' hgq.2]

end

end Cert.KernelIdeal.Machine
-- ==== Proof.Value.lean ====
/- The value: what the run leaves in the result is what the reference computes of the whole arrays. -/
module

public import proofs.«01_k».proof.Proof.Main
public import proofs.«01_k».proof.Proof.Sums
public import proofs.«01_k».proof.Proof.Gen.ReferenceIdeal
public import Idealize.ShloMosaic.Lib.Layout
public import Idealize.ShloMosaic.Lib.StackMember

@[expose] public section

noncomputable section

namespace Cert.KernelIdeal.Machine

open Idealize.ShloMosaic Idealize.ShloMosaic.TcCoe Idealize.SL.Sem
open Idealize.ShloMosaic.ValueIdx (ix2 eq_ix2 idx2_lt0 idx2_lt1)
open Cert.KernelIdeal.Gen

section
variable {F : FTy → Type} [FloatOps F]
variable (m : (ℓ : Loc nD τ sig) → Buf (Elt F) ℓ) (ρ : Dev nD → PrngReg)

/-- The block of the first argument a device works on is the argument. -/
theorem iA_eq (c : Dev nD) : iA m c = m ((c : Thread nD τ).loc main_arg0) :=
  have hz : (fun a => (win0_0.index t0_0) a * main_arg0.ty.shape.size a) = fun _ => 0 := funext fun a => by fin_cases a <;> decide
  Memref.read_access_unit_zero (Elt F) main_arg0 hz (fun a => by fin_cases a <;> decide) _

/-- The block of the second argument a device works on is the argument. -/
theorem iB_eq (c : Dev nD) : iB m c = m ((c : Thread nD τ).loc main_arg1) :=
  have hz : (fun a => (win0_1.index t0_0) a * main_arg1.ty.shape.size a) = fun _ => 0 := funext fun a => by fin_cases a <;> decide
  Memref.read_access_unit_zero (Elt F) main_arg1 hz (fun a => by fin_cases a <;> decide) _

/-- The result's array at the end holds the result. -/
theorem finalA_out (c : Dev nD) : finalA m ρ c (2 : Fin 3) = Out (iA m) (iB m) := by
  have hz : (fun a => (win0_2.index t0_0) a * main_v1.ty.shape.size a) = fun _ => 0 := funext fun a => by fin_cases a <;> decide
  have h := (dats m ρ 0 c).arrAt_succ (2 : Fin 3) t0_0
  rw [flush0_2, if_pos rfl] at h
  have hr := Memref.read_access_unit_zero (Elt F) main_v1 hz (fun a => by fin_cases a <;> decide) (finalA m ρ c (2 : Fin 3))
  refine hr.symm.trans ?_
  refine (congrArg _ h).trans ?_
  exact View.read_write_univ _ _
end

section
variable (X : Mat Ideal 1536 24576) (Y : Mat Ideal 24576 1536)

/-- The sum of the devices' products is the product of the whole arrays. -/
theorem sum_product (A : Dev nD → Mat Ideal 1536 768) (B : Dev nD → Mat Ideal 768 1536)
    (hA : ∀ c : Dev nD, A c = Layout.block ⟨2, ![1536, 768]⟩ ⟨2, ![1536, 24576]⟩ 1 32 c X)
    (hB : ∀ c : Dev nD, B c = Layout.block ⟨2, ![768, 1536]⟩ ⟨2, ![24576, 1536]⟩ 0 32 c Y) (r n : Fin 1536) :
    (∑ c : Dev nD, ent (Pm A B c) r.val n) = ∑ k : Fin 24576, (X (ix2 r k) * Y (ix2 k n) : EReal) := by
  have hs : (∑ k : Fin 24576, (X (ix2 r k) * Y (ix2 k n) : EReal))
      = ∑ p : Fin 32 × Fin 768, (X (ix2 r (finProdFinEquiv p)) * Y (ix2 (finProdFinEquiv p) n) : EReal) :=
    (Equiv.sum_comp (finProdFinEquiv (m := 32) (n := 768)) fun k => (X (ix2 r k) * Y (ix2 k n) : EReal)).symm
  rw [hs, Fintype.sum_prod_type]
  refine Finset.sum_congr rfl fun c _ => ?_
  rw [ent_Pm A B c r.val r.isLt n]
  refine Finset.sum_congr rfl fun k _ => ?_
  have ea : ent (A c) r.val k = X (ix2 r (finProdFinEquiv (c, k))) := by
    rw [ent_val, hA]
    refine congrArg X (funext fun a => Fin.ext ?_)
    fin_cases a
    · rfl
    · show c.val * 768 + k.val = k.val + 768 * c.val; omega
  have eb : B c (ix2 k n) = Y (ix2 (finProdFinEquiv (c, k)) n) := by
    rw [hB]
    refine congrArg Y (funext fun a => Fin.ext ?_)
    fin_cases a
    · show c.val * 768 + k.val = k.val + 768 * c.val; omega
    · rfl
  rw [ea, eb]

/-- Each entry of the result is the activation of the entry of the whole product. -/
theorem out_product (A : Dev nD → Mat Ideal 1536 768) (B : Dev nD → Mat Ideal 768 1536)
    (hA : ∀ c : Dev nD, A c = Layout.block ⟨2, ![1536, 768]⟩ ⟨2, ![1536, 24576]⟩ 1 32 c X)
    (hB : ∀ c : Dev nD, B c = Layout.block ⟨2, ![768, 1536]⟩ ⟨2, ![24576, 1536]⟩ 0 32 c Y) (r n : Fin 1536) :
    Out A B (ix2 r n) = act (Host.dotGeneral (F := Ideal) (φ₁ := .f32) (φ₂ := .f32) (DotDims.plain 1536 24576 1536) none X Y (ix2 r n)) := by
  have h := ent_Out A B r.val r.isLt n
  rw [ent_val, sum_product X Y A B hA hB r n] at h
  exact h.trans (congrArg act (StackMember.dotGeneral_plain_apply (φ₁ := .f32) (φ₂ := .f32) none X Y r n).symm)
end

end Cert.KernelIdeal.Machine
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem
open Idealize.ShloMosaic.ValueIdx (ix2 eq_ix2)
open Cert.KernelIdeal.Machine (iA iB Out act finalA_a finalA_b finalA_out iA_eq iB_eq out_product run_main frame_main)

section
variable {F : FTy → Type} [FloatOps F]

set_option maxRecDepth 200000 in
/-- The two printed kernels have one body table of the kernels, -/
theorem defs₀_eq : @Cert.Kernel.defs₀ F _ Cert.Kernel.Gen.facts = @Cert.KernelIdeal.defs₀ F _ Cert.KernelIdeal.Gen.facts := by
  refine congrArg Defs.onTc (funext fun l => ?_)
  match l with
  | 0 => exact rfl
  | ⟨_ + 1, h⟩ => exact absurd h (Nat.not_lt.2 (Nat.le_add_left _ _))

/-- and one body table. -/
theorem defs_eq : @Cert.Kernel.defs F _ Cert.Kernel.Gen.facts = @Cert.KernelIdeal.defs F _ Cert.KernelIdeal.Gen.facts :=
  congrArg (fun d => Pipeline.defs _ d) defs₀_eq
end

/-- The kernel, at bits, ends in every run and leaves its arguments. -/
theorem frame_kernel : Cert.quiescent_Kernel := fun m ρ _ => by
  rw [defs_eq]
  exact (θ_run Cert.KernelIdeal.defs _ _).mono (fun _ h => h) (frame_main (F := Bits) m ρ)

/-- The kernel, at exact arithmetic, ends in every run and leaves its arguments. -/
theorem frame_kernelIdeal : Cert.quiescent_KernelIdeal := fun m ρ _ =>
  (θ_run Cert.KernelIdeal.defs _ _).mono (fun _ h => h) (frame_main (F := Ideal) m ρ)

/-- The reference ends in every run and leaves its arguments. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

set_option maxRecDepth 200000 in
/-- At exact arithmetic every device's result is the reference's result of the whole arrays. -/
theorem algebraic : Cert.algebraic_KernelIdeal_ReferenceIdeal := fun m ρ m' ρ' _ hag => by
  refine ⟨Out (iA m) (iB m), ?_, ?_⟩
  · exact (θ_run Cert.KernelIdeal.defs _ _).mono
      (fun _ h c => ⟨(h.1 c (2 : Fin 3)).trans (finalA_out m ρ c), (h.1 c (0 : Fin 3)).trans (finalA_a m ρ c), (h.1 c (1 : Fin 3)).trans (finalA_b m ρ c)⟩)
      (run_main (F := Ideal) m ρ)
  · refine (θ_run Cert.ReferenceIdeal.defs _ _).mono (fun r h => ⟨(h 0).1.trans ?_, (h 0).2⟩) (Cert.ReferenceIdeal.Value.run (F := Ideal) m' ρ')
    funext i
    rw [eq_ix2 i]
    exact (out_product _ _ (iA m) (iB m) (fun c => (iA_eq m c).trans (hag c).1) (fun c => (iB_eq m c).trans (hag c).2) (i 0) (i 1)).symm

/-- Everything the certificate claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
